-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_within_capacity_KernelIdeal [hPre_finite_within_capacity_KernelIdeal : Cert.Pre_finite_within_capacity_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_within_capacity_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_within_capacity_ReferenceIdeal [hPre_finite_within_capacity_ReferenceIdeal : Cert.Pre_finite_within_capacity_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_within_capacity_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_within_capacity_KernelIdeal [hKernelIdeal : Cert.KernelIdeal.Facts] [hPre_finite_within_capacity_KernelIdeal : Cert.Pre_finite_within_capacity_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_within_capacity_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_within_capacity_ReferenceIdeal [hReferenceIdeal : Cert.ReferenceIdeal.Facts] [hPre_finite_within_capacity_ReferenceIdeal : Cert.Pre_finite_within_capacity_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_within_capacity_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_within_capacity_KernelIdeal [hKernelIdeal : Cert.KernelIdeal.Facts] [hReferenceIdeal : Cert.ReferenceIdeal.Facts] [hPre_finite_within_capacity_KernelIdeal : Cert.Pre_finite_within_capacity_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_within_capacity_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 512, 1024]⟩ ⟨3, ![32, 512, 1024]⟩ 0 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 1024]⟩ ⟨2, ![2048, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v23) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_within_capacity_KernelIdeal : Cert.Pre_finite_within_capacity_KernelIdeal.Facts) (hPre_finite_within_capacity_ReferenceIdeal : Cert.Pre_finite_within_capacity_ReferenceIdeal.Facts),
    quiescent_Kernel (hKernel := hKernel)
    ∧ quiescent_KernelIdeal (hKernelIdeal := hKernelIdeal)
    ∧ quiescent_KernelIdeal_pre_finite_within_capacity_KernelIdeal (hKernelIdeal := hKernelIdeal) (hPre_finite_within_capacity_KernelIdeal := hPre_finite_within_capacity_KernelIdeal)
    ∧ quiescent_ReferenceIdeal (hReferenceIdeal := hReferenceIdeal)
    ∧ quiescent_ReferenceIdeal_pre_finite_within_capacity_ReferenceIdeal (hReferenceIdeal := hReferenceIdeal) (hPre_finite_within_capacity_ReferenceIdeal := hPre_finite_within_capacity_ReferenceIdeal)
    ∧ preserves_Kernel_KernelIdeal
    ∧ algebraic_KernelIdeal_ReferenceIdeal_pre_finite_within_capacity_KernelIdeal (hKernelIdeal := hKernelIdeal) (hReferenceIdeal := hReferenceIdeal) (hPre_finite_within_capacity_KernelIdeal := hPre_finite_within_capacity_KernelIdeal)
-- ==== Pre_finite_within_capacity_KernelIdeal.lean ====
abbrev S2048x512 : Shape := ⟨2, ![2048, 512]⟩
abbrev S512x32 : Shape := ⟨2, ![512, 32]⟩
abbrev S2048x1 : Shape := ⟨2, ![2048, 1]⟩
abbrev S4x512x1024 : Shape := ⟨3, ![4, 512, 1024]⟩
abbrev S512x1024 : Shape := ⟨2, ![512, 1024]⟩
abbrev S_ : Shape := ⟨0, ![]⟩
abbrev S2048 : Shape := ⟨1, ![2048]⟩
abbrev S8 : Shape := ⟨1, ![8]⟩
abbrev S1x8 : Shape := ⟨2, ![1, 8]⟩
abbrev S2048x8 : Shape := ⟨2, ![2048, 8]⟩
abbrev S8x256x8 : Shape := ⟨3, ![8, 256, 8]⟩
abbrev S8x8 : Shape := ⟨2, ![8, 8]⟩
abbrev S8x256x1 : Shape := ⟨3, ![8, 256, 1]⟩
abbrev S8x1x8 : Shape := ⟨3, ![8, 1, 8]⟩

class Facts : Prop where
  bcast_S_S2048x512 : S_.BroadcastsInDim S2048x512 (![] : Fin 0 → Fin S2048x512.rank)
  reducesTo_S2048x512_S2048_d1 : S2048x512.ReducesTo [1] S2048
  h_S_ : 0 < S_.numel
  bcast_S2048_S2048x1_0 : S2048.BroadcastsInDim S2048x1 (![0] : Fin 1 → Fin S2048x1.rank)
  bcast_S_S512x32 : S_.BroadcastsInDim S512x32 (![] : Fin 0 → Fin S512x32.rank)
  reducesTo_S512x32_S_d0_1 : S512x32.ReducesTo [0, 1] S_
  bcast_S_S8 : S_.BroadcastsInDim S8 (![] : Fin 0 → Fin S8.rank)
  bcast_S8_S1x8_1 : S8.BroadcastsInDim S1x8 (![1] : Fin 1 → Fin S1x8.rank)
  bcast_S2048x1_S2048x8_0_1 : S2048x1.BroadcastsInDim S2048x8 (![0, 1] : Fin 2 → Fin S2048x8.rank)
  bcast_S1x8_S2048x8_0_1 : S1x8.BroadcastsInDim S2048x8 (![0, 1] : Fin 2 → Fin S2048x8.rank)
  shapeCasts_S2048x8_S8x256x8 : S2048x8.ShapeCasts S8x256x8
  natLt_1_32 : 1 < 32
  reducesTo_S8x256x8_S8x8_d1 : S8x256x8.ReducesTo [1] S8x8
  bcast_S_S2048x1 : S_.BroadcastsInDim S2048x1 (![] : Fin 0 → Fin S2048x1.rank)
  shapeCasts_S2048x1_S8x256x1 : S2048x1.ShapeCasts S8x256x1
  bcast_S_S8x8 : S_.BroadcastsInDim S8x8 (![] : Fin 0 → Fin S8x8.rank)
  shapeCasts_S8x8_S8x1x8 : S8x8.ShapeCasts S8x1x8
  bcast_S8x256x1_S8x256x8_0_1_2 : S8x256x1.BroadcastsInDim S8x256x8 (![0, 1, 2] : Fin 3 → Fin S8x256x8.rank)
  bcast_S8x1x8_S8x256x8_0_1_2 : S8x1x8.BroadcastsInDim S8x256x8 (![0, 1, 2] : Fin 3 → Fin S8x256x8.rank)

variable [Facts]

def fn_part2 {F : FTy → Type} [FloatOps F] (main_v34 : IVec S8x256x1 1) (main_v37 : IVec S8x1x8 1) : IVec S8x256x8 1 :=
  let main_v38 : IVec S8x256x8 1 := broadcastInDim S8x256x8 ![0, 1, 2] bcast_S8x256x1_S8x256x8_0_1_2 main_v34
  let main_v39 : IVec S8x256x8 1 := broadcastInDim S8x256x8 ![0, 1, 2] bcast_S8x1x8_S8x256x8_0_1_2 main_v37
  let main_v40 : IVec S8x256x8 1 := andi main_v38 main_v39
  main_v40

def fn_part1 {F : FTy → Type} [FloatOps F] (main_arg2 : IVec S2048x1 32) (main_v4 : IVec S2048x1 1) (main_v8 : IVec S_ 1) (main_v15 : IVec S2048x8 1) (main_v17 : IVec S8 32) : IVec S8x256x8 1 :=
  let main_v18 : IVec S1x8 32 := broadcastInDim S1x8 ![1] bcast_S8_S1x8_1 main_v17
  let main_v19 : IVec S2048x8 32 := broadcastInDim S2048x8 ![0, 1] bcast_S2048x1_S2048x8_0_1 main_arg2
  let main_v20 : IVec S2048x8 32 := broadcastInDim S2048x8 ![0, 1] bcast_S1x8_S2048x8_0_1 main_v18
  let main_v21 : IVec S2048x8 1 := cmpi .slt main_v19 main_v20
  let main_v22 : IVec S2048x8 1 := andi main_v15 main_v21
  let main_v23 : IVec S8x256x8 1 := shapeCast S8x256x8 main_v22 shapeCasts_S2048x8_S8x256x8
  let main_v24 : IVec S8x256x8 32 := (extui 32 · natLt_1_32) main_v23
  let main_c_4 : IVec S_ 32 := constantI S_ 32 0#32
  let main_v25 : IVec S8x8 32 := (fun x v => Host.reduce IntOp.addi x v reducesTo_S8x256x8_S8x8_d1 h_S_) main_v24 main_c_4
  let main_c_5 : IVec S_ 32 := constantI S_ 32 0#32
  let main_v26 : IVec S2048x1 32 := broadcastInDim S2048x1 ![] bcast_S_S2048x1 main_c_5
  let main_v27 : IVec S2048x1 1 := cmpi .sge main_arg2 main_v26
  let main_c_6 : IVec S_ 32 := constantI S_ 32 32#32
  let main_v28 : IVec S2048x1 32 := broadcastInDim S2048x1 ![] bcast_S_S2048x1 main_c_6
  let main_v29 : IVec S2048x1 1 := cmpi .slt main_arg2 main_v28
  let main_v30 : IVec S2048x1 1 := andi main_v27 main_v29
  let main_v31 : IVec S2048x1 1 := andi main_v30 main_v4
  let main_v32 : IVec S2048x1 1 := broadcastInDim S2048x1 ![] bcast_S_S2048x1 main_v8
  let main_v33 : IVec S2048x1 1 := andi main_v31 main_v32
  let main_v34 : IVec S8x256x1 1 := shapeCast S8x256x1 main_v33 shapeCasts_S2048x1_S8x256x1
  let main_c_7 : IVec S_ 32 := constantI S_ 32 96#32
  let main_v35 : IVec S8x8 32 := broadcastInDim S8x8 ![] bcast_S_S8x8 main_c_7
  let main_v36 : IVec S8x8 1 := cmpi .sle main_v25 main_v35
  let main_v37 : IVec S8x1x8 1 := shapeCast S8x1x8 main_v36 shapeCasts_S8x8_S8x1x8
  fn_part2 (F := F) main_v34 main_v37

def fn {F : FTy → Type} [FloatOps F] (main_arg0 : FVec F S2048x512 .f32) (main_arg1 : FVec F S512x32 .f32) (main_arg2 : IVec S2048x1 32) (main_arg3 : FVec F S4x512x1024 .f32) (main_arg4 : FVec F S512x1024 .f32) : IVec S8x256x8 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S2048 1 := (fun x v => Host.reduce IntOp.andi x v reducesTo_S2048x512_S2048_d1 h_S_) main_v2 main_c
  let main_v4 : IVec S2048x1 1 := broadcastInDim S2048x1 ![0] bcast_S2048_S2048x1_0 main_v3
  let main_v5 : FVec F S512x32 .f32 := Host.absf main_arg1
  let main_cst_0 : FVec F S_ .f32 := constant S_ .f32 0x7F800000#32
  let main_v6 : FVec F S512x32 .f32 := broadcastInDim S512x32 ![] bcast_S_S512x32 main_cst_0
  let main_v7 : IVec S512x32 1 := cmpf .olt main_v5 main_v6
  let main_c_1 : IVec S_ 1 := constantI S_ 1 1#1
  let main_v8 : IVec S_ 1 := (fun x v => Host.reduce IntOp.andi x v reducesTo_S512x32_S_d0_1 h_S_) main_v7 main_c_1
  let main_v9 : IVec S8 32 := iotaInDim S8 32 0
  let main_c_2 : IVec S_ 32 := constantI S_ 32 4#32
  let main_v10 : IVec S8 32 := broadcastInDim S8 ![] bcast_S_S8 main_c_2
  let main_v11 : IVec S8 32 := muli main_v10 main_v9
  let main_v12 : IVec S1x8 32 := broadcastInDim S1x8 ![1] bcast_S8_S1x8_1 main_v11
  let main_v13 : IVec S2048x8 32 := broadcastInDim S2048x8 ![0, 1] bcast_S2048x1_S2048x8_0_1 main_arg2
  let main_v14 : IVec S2048x8 32 := broadcastInDim S2048x8 ![0, 1] bcast_S1x8_S2048x8_0_1 main_v12
  let main_v15 : IVec S2048x8 1 := cmpi .sge main_v13 main_v14
  let main_c_3 : IVec S_ 32 := constantI S_ 32 4#32
  let main_v16 : IVec S8 32 := broadcastInDim S8 ![] bcast_S_S8 main_c_3
  let main_v17 : IVec S8 32 := addi main_v11 main_v16
  fn_part1 (F := F) main_arg2 main_v4 main_v8 main_v15 main_v17
-- ==== Pre_finite_within_capacity_ReferenceIdeal.lean ====
abbrev S2048x512 : Shape := ⟨2, ![2048, 512]⟩
abbrev S512x32 : Shape := ⟨2, ![512, 32]⟩
abbrev S2048x1 : Shape := ⟨2, ![2048, 1]⟩
abbrev S32x512x1024 : Shape := ⟨3, ![32, 512, 1024]⟩
abbrev S512x1024 : Shape := ⟨2, ![512, 1024]⟩
abbrev S_ : Shape := ⟨0, ![]⟩
abbrev S2048 : Shape := ⟨1, ![2048]⟩
abbrev S8 : Shape := ⟨1, ![8]⟩
abbrev S1x8 : Shape := ⟨2, ![1, 8]⟩
abbrev S2048x8 : Shape := ⟨2, ![2048, 8]⟩
abbrev S8x256x8 : Shape := ⟨3, ![8, 256, 8]⟩
abbrev S8x8 : Shape := ⟨2, ![8, 8]⟩
abbrev S8x256x1 : Shape := ⟨3, ![8, 256, 1]⟩
abbrev S8x1x8 : Shape := ⟨3, ![8, 1, 8]⟩

class Facts : Prop where
  bcast_S_S2048x512 : S_.BroadcastsInDim S2048x512 (![] : Fin 0 → Fin S2048x512.rank)
  reducesTo_S2048x512_S2048_d1 : S2048x512.ReducesTo [1] S2048
  h_S_ : 0 < S_.numel
  bcast_S2048_S2048x1_0 : S2048.BroadcastsInDim S2048x1 (![0] : Fin 1 → Fin S2048x1.rank)
  bcast_S_S512x32 : S_.BroadcastsInDim S512x32 (![] : Fin 0 → Fin S512x32.rank)
  reducesTo_S512x32_S_d0_1 : S512x32.ReducesTo [0, 1] S_
  bcast_S_S8 : S_.BroadcastsInDim S8 (![] : Fin 0 → Fin S8.rank)
  bcast_S8_S1x8_1 : S8.BroadcastsInDim S1x8 (![1] : Fin 1 → Fin S1x8.rank)
  bcast_S2048x1_S2048x8_0_1 : S2048x1.BroadcastsInDim S2048x8 (![0, 1] : Fin 2 → Fin S2048x8.rank)
  bcast_S1x8_S2048x8_0_1 : S1x8.BroadcastsInDim S2048x8 (![0, 1] : Fin 2 → Fin S2048x8.rank)
  shapeCasts_S2048x8_S8x256x8 : S2048x8.ShapeCasts S8x256x8
  natLt_1_32 : 1 < 32
  reducesTo_S8x256x8_S8x8_d1 : S8x256x8.ReducesTo [1] S8x8
  bcast_S_S2048x1 : S_.BroadcastsInDim S2048x1 (![] : Fin 0 → Fin S2048x1.rank)
  shapeCasts_S2048x1_S8x256x1 : S2048x1.ShapeCasts S8x256x1
  bcast_S_S8x8 : S_.BroadcastsInDim S8x8 (![] : Fin 0 → Fin S8x8.rank)
  shapeCasts_S8x8_S8x1x8 : S8x8.ShapeCasts S8x1x8
  bcast_S8x256x1_S8x256x8_0_1_2 : S8x256x1.BroadcastsInDim S8x256x8 (![0, 1, 2] : Fin 3 → Fin S8x256x8.rank)
  bcast_S8x1x8_S8x256x8_0_1_2 : S8x1x8.BroadcastsInDim S8x256x8 (![0, 1, 2] : Fin 3 → Fin S8x256x8.rank)

variable [Facts]

def fn_part2 {F : FTy → Type} [FloatOps F] (main_v34 : IVec S8x256x1 1) (main_v37 : IVec S8x1x8 1) : IVec S8x256x8 1 :=
  let main_v38 : IVec S8x256x8 1 := broadcastInDim S8x256x8 ![0, 1, 2] bcast_S8x256x1_S8x256x8_0_1_2 main_v34
  let main_v39 : IVec S8x256x8 1 := broadcastInDim S8x256x8 ![0, 1, 2] bcast_S8x1x8_S8x256x8_0_1_2 main_v37
  let main_v40 : IVec S8x256x8 1 := andi main_v38 main_v39
  main_v40

def fn_part1 {F : FTy → Type} [FloatOps F] (main_arg2 : IVec S2048x1 32) (main_v4 : IVec S2048x1 1) (main_v8 : IVec S_ 1) (main_v15 : IVec S2048x8 1) (main_v17 : IVec S8 32) : IVec S8x256x8 1 :=
  let main_v18 : IVec S1x8 32 := broadcastInDim S1x8 ![1] bcast_S8_S1x8_1 main_v17
  let main_v19 : IVec S2048x8 32 := broadcastInDim S2048x8 ![0, 1] bcast_S2048x1_S2048x8_0_1 main_arg2
  let main_v20 : IVec S2048x8 32 := broadcastInDim S2048x8 ![0, 1] bcast_S1x8_S2048x8_0_1 main_v18
  let main_v21 : IVec S2048x8 1 := cmpi .slt main_v19 main_v20
  let main_v22 : IVec S2048x8 1 := andi main_v15 main_v21
  let main_v23 : IVec S8x256x8 1 := shapeCast S8x256x8 main_v22 shapeCasts_S2048x8_S8x256x8
  let main_v24 : IVec S8x256x8 32 := (extui 32 · natLt_1_32) main_v23
  let main_c_4 : IVec S_ 32 := constantI S_ 32 0#32
  let main_v25 : IVec S8x8 32 := (fun x v => Host.reduce IntOp.addi x v reducesTo_S8x256x8_S8x8_d1 h_S_) main_v24 main_c_4
  let main_c_5 : IVec S_ 32 := constantI S_ 32 0#32
  let main_v26 : IVec S2048x1 32 := broadcastInDim S2048x1 ![] bcast_S_S2048x1 main_c_5
  let main_v27 : IVec S2048x1 1 := cmpi .sge main_arg2 main_v26
  let main_c_6 : IVec S_ 32 := constantI S_ 32 32#32
  let main_v28 : IVec S2048x1 32 := broadcastInDim S2048x1 ![] bcast_S_S2048x1 main_c_6
  let main_v29 : IVec S2048x1 1 := cmpi .slt main_arg2 main_v28
  let main_v30 : IVec S2048x1 1 := andi main_v27 main_v29
  let main_v31 : IVec S2048x1 1 := andi main_v30 main_v4
  let main_v32 : IVec S2048x1 1 := broadcastInDim S2048x1 ![] bcast_S_S2048x1 main_v8
  let main_v33 : IVec S2048x1 1 := andi main_v31 main_v32
  let main_v34 : IVec S8x256x1 1 := shapeCast S8x256x1 main_v33 shapeCasts_S2048x1_S8x256x1
  let main_c_7 : IVec S_ 32 := constantI S_ 32 96#32
  let main_v35 : IVec S8x8 32 := broadcastInDim S8x8 ![] bcast_S_S8x8 main_c_7
  let main_v36 : IVec S8x8 1 := cmpi .sle main_v25 main_v35
  let main_v37 : IVec S8x1x8 1 := shapeCast S8x1x8 main_v36 shapeCasts_S8x8_S8x1x8
  fn_part2 (F := F) main_v34 main_v37

def fn {F : FTy → Type} [FloatOps F] (main_arg0 : FVec F S2048x512 .f32) (main_arg1 : FVec F S512x32 .f32) (main_arg2 : IVec S2048x1 32) (main_arg3 : FVec F S32x512x1024 .f32) (main_arg4 : FVec F S512x1024 .f32) : IVec S8x256x8 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S2048 1 := (fun x v => Host.reduce IntOp.andi x v reducesTo_S2048x512_S2048_d1 h_S_) main_v2 main_c
  let main_v4 : IVec S2048x1 1 := broadcastInDim S2048x1 ![0] bcast_S2048_S2048x1_0 main_v3
  let main_v5 : FVec F S512x32 .f32 := Host.absf main_arg1
  let main_cst_0 : FVec F S_ .f32 := constant S_ .f32 0x7F800000#32
  let main_v6 : FVec F S512x32 .f32 := broadcastInDim S512x32 ![] bcast_S_S512x32 main_cst_0
  let main_v7 : IVec S512x32 1 := cmpf .olt main_v5 main_v6
  let main_c_1 : IVec S_ 1 := constantI S_ 1 1#1
  let main_v8 : IVec S_ 1 := (fun x v => Host.reduce IntOp.andi x v reducesTo_S512x32_S_d0_1 h_S_) main_v7 main_c_1
  let main_v9 : IVec S8 32 := iotaInDim S8 32 0
  let main_c_2 : IVec S_ 32 := constantI S_ 32 4#32
  let main_v10 : IVec S8 32 := broadcastInDim S8 ![] bcast_S_S8 main_c_2
  let main_v11 : IVec S8 32 := muli main_v10 main_v9
  let main_v12 : IVec S1x8 32 := broadcastInDim S1x8 ![1] bcast_S8_S1x8_1 main_v11
  let main_v13 : IVec S2048x8 32 := broadcastInDim S2048x8 ![0, 1] bcast_S2048x1_S2048x8_0_1 main_arg2
  let main_v14 : IVec S2048x8 32 := broadcastInDim S2048x8 ![0, 1] bcast_S1x8_S2048x8_0_1 main_v12
  let main_v15 : IVec S2048x8 1 := cmpi .sge main_v13 main_v14
  let main_c_3 : IVec S_ 32 := constantI S_ 32 4#32
  let main_v16 : IVec S8 32 := broadcastInDim S8 ![] bcast_S_S8 main_c_3
  let main_v17 : IVec S8 32 := addi main_v11 main_v16
  fn_part1 (F := F) main_arg2 main_v4 main_v8 main_v15 main_v17
-- ==== Kernel.lean ====
abbrev S2048x512 : Shape := ⟨2, ![2048, 512]⟩
abbrev S512x32 : Shape := ⟨2, ![512, 32]⟩
abbrev S2048x1 : Shape := ⟨2, ![2048, 1]⟩
abbrev S4x512x1024 : Shape := ⟨3, ![4, 512, 1024]⟩
abbrev S512x1024 : Shape := ⟨2, ![512, 1024]⟩
abbrev S256x1024 : Shape := ⟨2, ![256, 1024]⟩
abbrev S7x96x1024 : Shape := ⟨3, ![7, 96, 1024]⟩
abbrev S7 : Shape := ⟨1, ![7]⟩
abbrev S256x256 : Shape := ⟨2, ![256, 256]⟩
abbrev S96x256 : Shape := ⟨2, ![96, 256]⟩
abbrev S_ : Shape := ⟨0, ![]⟩
abbrev S256x512 : Shape := ⟨2, ![256, 512]⟩
abbrev S256x32 : Shape := ⟨2, ![256, 32]⟩
abbrev S256 : Shape := ⟨1, ![256]⟩
abbrev S256x1 : Shape := ⟨2, ![256, 1]⟩
abbrev S1x256 : Shape := ⟨2, ![1, 256]⟩
abbrev S96x512 : Shape := ⟨2, ![96, 512]⟩
abbrev S96x1 : Shape := ⟨2, ![96, 1]⟩
abbrev S96x1024 : Shape := ⟨2, ![96, 1024]⟩
abbrev S1x512x1024 : Shape := ⟨3, ![1, 512, 1024]⟩
abbrev S1x96x1024 : Shape := ⟨3, ![1, 96, 1024]⟩
abbrev S1 : Shape := ⟨1, ![1]⟩
abbrev S256x96 : Shape := ⟨2, ![256, 96]⟩

abbrev nBuf : Space → Nat
  | .hbm => 6
  | .vmem => 8
  | .smem => 0
  | _ => 0

abbrev bufTy : (tb : Table) → Fin (tcTables nBuf tb) → BufTy
  | .hbm, ⟨0, _⟩ => ⟨S2048x512, .f32⟩
  | .hbm, ⟨1, _⟩ => ⟨S512x32, .f32⟩
  | .hbm, ⟨2, _⟩ => ⟨S2048x1, .i32⟩
  | .hbm, ⟨3, _⟩ => ⟨S4x512x1024, .f32⟩
  | .hbm, ⟨4, _⟩ => ⟨S512x1024, .f32⟩
  | .hbm, ⟨5, _⟩ => ⟨S256x1024, .f32⟩
  | .local _ .vmem, ⟨0, _⟩ => ⟨S2048x512, .f32⟩
  | .local _ .vmem, ⟨1, _⟩ => ⟨S512x32, .f32⟩
  | .local _ .vmem, ⟨2, _⟩ => ⟨S2048x1, .i32⟩
  | .local _ .vmem, ⟨3, _⟩ => ⟨S4x512x1024, .f32⟩
  | .local _ .vmem, ⟨4, _⟩ => ⟨S512x1024, .f32⟩
  | .local _ .vmem, ⟨5, _⟩ => ⟨S256x1024, .f32⟩
  | .local _ .vmem, ⟨6, _⟩ => ⟨S7x96x1024, .bf16⟩
  | .local _ .vmem, ⟨7, _⟩ => ⟨S7x96x1024, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v14 : BitVec 32 := Scalar.addi v2 c1_i32_3
  let c8_i32_4 : BitVec 32 := 8#32
  let c0_i32 : BitVec 32 := 0#32
  let v15 : BitVec 1 := Scalar.cmpi .eq c8_i32_4 c0_i32
  let c1_i32_5 : BitVec 32 := 1#32
  let v16 : BitVec 32 := Scalar.select v15 c1_i32_5 c8_i32_4
  let v17 : BitVec 32 := Scalar.remsi v14 v16
  let c0_i32_7 : BitVec 32 := 0#32
  let v19 : BitVec 1 := Scalar.cmpi .slt v17 c0_i32_7
  let c0_i32_8 : BitVec 32 := 0#32
  let v20 : BitVec 1 := Scalar.cmpi .slt v16 c0_i32_8
  let v21 : BitVec 1 := Scalar.xori v19 v20
  let c0_i32_6 : BitVec 32 := 0#32
  let v18 : BitVec 1 := Scalar.cmpi .ne v17 c0_i32_6
  let v22 : BitVec 1 := Scalar.andi v21 v18
  let v23 : BitVec 32 := Scalar.addi v17 v16
  let v24 : BitVec 32 := Scalar.select v22 v23 v17
  let c1_i32_10 : BitVec 32 := 1#32
  let v25 : BitVec 32 := Scalar.muli v24 c1_i32_10
  let v26 : BitVec 32 := Scalar.addi c0_i32_11 v25
  v26.toNat
def k0_dev2 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v27 : BitVec 32 := Scalar.addi v2 c2_i32
  let c8_i32_12 : BitVec 32 := 8#32
  let c0_i32_13 : BitVec 32 := 0#32
  let v28 : BitVec 1 := Scalar.cmpi .eq c8_i32_12 c0_i32_13
  let c1_i32_14 : BitVec 32 := 1#32
  let v29 : BitVec 32 := Scalar.select v28 c1_i32_14 c8_i32_12
  let v30 : BitVec 32 := Scalar.remsi v27 v29
  let c0_i32_16 : BitVec 32 := 0#32
  let v32 : BitVec 1 := Scalar.cmpi .slt v30 c0_i32_16
  let c0_i32_17 : BitVec 32 := 0#32
  let v33 : BitVec 1 := Scalar.cmpi .slt v29 c0_i32_17
  let v34 : BitVec 1 := Scalar.xori v32 v33
  let c0_i32_15 : BitVec 32 := 0#32
  let v31 : BitVec 1 := Scalar.cmpi .ne v30 c0_i32_15
  let v35 : BitVec 1 := Scalar.andi v34 v31
  let v36 : BitVec 32 := Scalar.addi v30 v29
  let v37 : BitVec 32 := Scalar.select v35 v36 v30
  let c1_i32_19 : BitVec 32 := 1#32
  let v38 : BitVec 32 := Scalar.muli v37 c1_i32_19
  let v39 : BitVec 32 := Scalar.addi c0_i32_20 v38
  v39.toNat
def k0_dev3 (d0 : Dev nD) : Nat :=
  let c0_i32_29 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v40 : BitVec 32 := Scalar.addi v2 c3_i32
  let c8_i32_21 : BitVec 32 := 8#32
  let c0_i32_22 : BitVec 32 := 0#32
  let v41 : BitVec 1 := Scalar.cmpi .eq c8_i32_21 c0_i32_22
  let c1_i32_23 : BitVec 32 := 1#32
  let v42 : BitVec 32 := Scalar.select v41 c1_i32_23 c8_i32_21
  let v43 : BitVec 32 := Scalar.remsi v40 v42
  let c0_i32_25 : BitVec 32 := 0#32
  let v45 : BitVec 1 := Scalar.cmpi .slt v43 c0_i32_25
  let c0_i32_26 : BitVec 32 := 0#32
  let v46 : BitVec 1 := Scalar.cmpi .slt v42 c0_i32_26
  let v47 : BitVec 1 := Scalar.xori v45 v46
  let c0_i32_24 : BitVec 32 := 0#32
  let v44 : BitVec 1 := Scalar.cmpi .ne v43 c0_i32_24
  let v48 : BitVec 1 := Scalar.andi v47 v44
  let v49 : BitVec 32 := Scalar.addi v43 v42
  let v50 : BitVec 32 := Scalar.select v48 v49 v43
  let c1_i32_28 : BitVec 32 := 1#32
  let v51 : BitVec 32 := Scalar.muli v50 c1_i32_28
  let v52 : BitVec 32 := Scalar.addi c0_i32_29 v51
  v52.toNat
def k0_dev4 (d0 : Dev nD) : Nat :=
  let c0_i32_38 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v53 : BitVec 32 := Scalar.addi v2 c4_i32
  let c8_i32_30 : BitVec 32 := 8#32
  let c0_i32_31 : BitVec 32 := 0#32
  let v54 : BitVec 1 := Scalar.cmpi .eq c8_i32_30 c0_i32_31
  let c1_i32_32 : BitVec 32 := 1#32
  let v55 : BitVec 32 := Scalar.select v54 c1_i32_32 c8_i32_30
  let v56 : BitVec 32 := Scalar.remsi v53 v55
  let c0_i32_34 : BitVec 32 := 0#32
  let v58 : BitVec 1 := Scalar.cmpi .slt v56 c0_i32_34
  let c0_i32_35 : BitVec 32 := 0#32
  let v59 : BitVec 1 := Scalar.cmpi .slt v55 c0_i32_35
  let v60 : BitVec 1 := Scalar.xori v58 v59
  let c0_i32_33 : BitVec 32 := 0#32
  let v57 : BitVec 1 := Scalar.cmpi .ne v56 c0_i32_33
  let v61 : BitVec 1 := Scalar.andi v60 v57
  let v62 : BitVec 32 := Scalar.addi v56 v55
  let v63 : BitVec 32 := Scalar.select v61 v62 v56
  let c1_i32_37 : BitVec 32 := 1#32
  let v64 : BitVec 32 := Scalar.muli v63 c1_i32_37
  let v65 : BitVec 32 := Scalar.addi c0_i32_38 v64
  v65.toNat
def k0_dev5 (d0 : Dev nD) : Nat :=
  let c0_i32_47 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v66 : BitVec 32 := Scalar.addi v2 c5_i32
  let c8_i32_39 : BitVec 32 := 8#32
  let c0_i32_40 : BitVec 32 := 0#32
  let v67 : BitVec 1 := Scalar.cmpi .eq c8_i32_39 c0_i32_40
  let c1_i32_41 : BitVec 32 := 1#32
  let v68 : BitVec 32 := Scalar.select v67 c1_i32_41 c8_i32_39
  let v69 : BitVec 32 := Scalar.remsi v66 v68
  let c0_i32_43 : BitVec 32 := 0#32
  let v71 : BitVec 1 := Scalar.cmpi .slt v69 c0_i32_43
  let c0_i32_44 : BitVec 32 := 0#32
  let v72 : BitVec 1 := Scalar.cmpi .slt v68 c0_i32_44
  let v73 : BitVec 1 := Scalar.xori v71 v72
  let c0_i32_42 : BitVec 32 := 0#32
  let v70 : BitVec 1 := Scalar.cmpi .ne v69 c0_i32_42
  let v74 : BitVec 1 := Scalar.andi v73 v70
  let v75 : BitVec 32 := Scalar.addi v69 v68
  let v76 : BitVec 32 := Scalar.select v74 v75 v69
  let c1_i32_46 : BitVec 32 := 1#32
  let v77 : BitVec 32 := Scalar.muli v76 c1_i32_46
  let v78 : BitVec 32 := Scalar.addi c0_i32_47 v77
  v78.toNat
def k0_dev6 (d0 : Dev nD) : Nat :=
  let c0_i32_56 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v79 : BitVec 32 := Scalar.addi v2 c6_i32
  let c8_i32_48 : BitVec 32 := 8#32
  let c0_i32_49 : BitVec 32 := 0#32
  let v80 : BitVec 1 := Scalar.cmpi .eq c8_i32_48 c0_i32_49
  let c1_i32_50 : BitVec 32 := 1#32
  let v81 : BitVec 32 := Scalar.select v80 c1_i32_50 c8_i32_48
  let v82 : BitVec 32 := Scalar.remsi v79 v81
  let c0_i32_52 : BitVec 32 := 0#32
  let v84 : BitVec 1 := Scalar.cmpi .slt v82 c0_i32_52
  let c0_i32_53 : BitVec 32 := 0#32
  let v85 : BitVec 1 := Scalar.cmpi .slt v81 c0_i32_53
  let v86 : BitVec 1 := Scalar.xori v84 v85
  let c0_i32_51 : BitVec 32 := 0#32
  let v83 : BitVec 1 := Scalar.cmpi .ne v82 c0_i32_51
  let v87 : BitVec 1 := Scalar.andi v86 v83
  let v88 : BitVec 32 := Scalar.addi v82 v81
  let v89 : BitVec 32 := Scalar.select v87 v88 v82
  let c1_i32_55 : BitVec 32 := 1#32
  let v90 : BitVec 32 := Scalar.muli v89 c1_i32_55
  let v91 : BitVec 32 := Scalar.addi c0_i32_56 v90
  v91.toNat
def k0_dev7 (d0 : Dev nD) : Nat :=
  let c0_i32_65 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v92 : BitVec 32 := Scalar.addi v2 c7_i32
  let c8_i32_57 : BitVec 32 := 8#32
  let c0_i32_58 : BitVec 32 := 0#32
  let v93 : BitVec 1 := Scalar.cmpi .eq c8_i32_57 c0_i32_58
  let c1_i32_59 : BitVec 32 := 1#32
  let v94 : BitVec 32 := Scalar.select v93 c1_i32_59 c8_i32_57
  let v95 : BitVec 32 := Scalar.remsi v92 v94
  let c0_i32_61 : BitVec 32 := 0#32
  let v97 : BitVec 1 := Scalar.cmpi .slt v95 c0_i32_61
  let c0_i32_62 : BitVec 32 := 0#32
  let v98 : BitVec 1 := Scalar.cmpi .slt v94 c0_i32_62
  let v99 : BitVec 1 := Scalar.xori v97 v98
  let c0_i32_60 : BitVec 32 := 0#32
  let v96 : BitVec 1 := Scalar.cmpi .ne v95 c0_i32_60
  let v100 : BitVec 1 := Scalar.andi v99 v96
  let v101 : BitVec 32 := Scalar.addi v95 v94
  let v102 : BitVec 32 := Scalar.select v100 v101 v95
  let c1_i32_64 : BitVec 32 := 1#32
  let v103 : BitVec 32 := Scalar.muli v102 c1_i32_64
  let v104 : BitVec 32 := Scalar.addi c0_i32_65 v103
  v104.toNat
def k0_off1 (d0 : Dev nD) (c1_i32_67 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v105 : BitVec 32 := Scalar.addi v2 c1_i32_67
  let c8_i32_68 : BitVec 32 := 8#32
  let c0_i32_69 : BitVec 32 := 0#32
  let v106 : BitVec 1 := Scalar.cmpi .eq c8_i32_68 c0_i32_69
  let c1_i32_70 : BitVec 32 := 1#32
  let v107 : BitVec 32 := Scalar.select v106 c1_i32_70 c8_i32_68
  let v108 : BitVec 32 := Scalar.remsi v105 v107
  let c0_i32_72 : BitVec 32 := 0#32
  let v110 : BitVec 1 := Scalar.cmpi .slt v108 c0_i32_72
  let c0_i32_73 : BitVec 32 := 0#32
  let v111 : BitVec 1 := Scalar.cmpi .slt v107 c0_i32_73
  let v112 : BitVec 1 := Scalar.xori v110 v111
  let c0_i32_71 : BitVec 32 := 0#32
  let v109 : BitVec 1 := Scalar.cmpi .ne v108 c0_i32_71
  let v113 : BitVec 1 := Scalar.andi v112 v109
  let v114 : BitVec 32 := Scalar.addi v108 v107
  let v115 : BitVec 32 := Scalar.select v113 v114 v108
  let c256_i32 : BitVec 32 := 256#32
  let v116 : BitVec 32 := Scalar.muli v115 c256_i32
  let v117 : Index := Scalar.indexCast v116
  let c0_74 : Index := 0#32
  ![v117.toNat, 0]
def k0_off2 (d0 : Dev nD) (c1_i32_67 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v105 : BitVec 32 := Scalar.addi v2 c1_i32_67
  let c8_i32_68 : BitVec 32 := 8#32
  let c0_i32_69 : BitVec 32 := 0#32
  let v106 : BitVec 1 := Scalar.cmpi .eq c8_i32_68 c0_i32_69
  let c1_i32_70 : BitVec 32 := 1#32
  let v107 : BitVec 32 := Scalar.select v106 c1_i32_70 c8_i32_68
  let v108 : BitVec 32 := Scalar.remsi v105 v107
  let c0_i32_72 : BitVec 32 := 0#32
  let v110 : BitVec 1 := Scalar.cmpi .slt v108 c0_i32_72
  let c0_i32_73 : BitVec 32 := 0#32
  let v111 : BitVec 1 := Scalar.cmpi .slt v107 c0_i32_73
  let v112 : BitVec 1 := Scalar.xori v110 v111
  let c0_i32_71 : BitVec 32 := 0#32
  let v109 : BitVec 1 := Scalar.cmpi .ne v108 c0_i32_71
  let v113 : BitVec 1 := Scalar.andi v112 v109
  let v114 : BitVec 32 := Scalar.addi v108 v107
  let v115 : BitVec 32 := Scalar.select v113 v114 v108
  let c256_i32_80 : BitVec 32 := 256#32
  let v132 : BitVec 32 := Scalar.muli v115 c256_i32_80
  let v133 : Index := Scalar.indexCast v132
  let c0_81 : Index := 0#32
  ![v133.toNat, 0]
def k0_dev8 (d0 : Dev nD) : Nat :=
  let c0_i32_120 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_67 : BitVec 32 := 1#32
  let v105 : BitVec 32 := Scalar.addi v2 c1_i32_67
  let c8_i32_68 : BitVec 32 := 8#32
  let c0_i32_69 : BitVec 32 := 0#32
  let v106 : BitVec 1 := Scalar.cmpi .eq c8_i32_68 c0_i32_69
  let c1_i32_70 : BitVec 32 := 1#32
  let v107 : BitVec 32 := Scalar.select v106 c1_i32_70 c8_i32_68
  let v108 : BitVec 32 := Scalar.remsi v105 v107
  let c0_i32_72 : BitVec 32 := 0#32
  let v110 : BitVec 1 := Scalar.cmpi .slt v108 c0_i32_72
  let c0_i32_73 : BitVec 32 := 0#32
  let v111 : BitVec 1 := Scalar.cmpi .slt v107 c0_i32_73
  let v112 : BitVec 1 := Scalar.xori v110 v111
  let c0_i32_71 : BitVec 32 := 0#32
  let v109 : BitVec 1 := Scalar.cmpi .ne v108 c0_i32_71
  let v113 : BitVec 1 := Scalar.andi v112 v109
  let v114 : BitVec 32 := Scalar.addi v108 v107
  let v115 : BitVec 32 := Scalar.select v113 v114 v108
  let c1_i32_119 : BitVec 32 := 1#32
  let v239 : BitVec 32 := Scalar.muli v115 c1_i32_119
  let v240 : BitVec 32 := Scalar.addi c0_i32_120 v239
  v240.toNat
def k0_dev9 (d0 : Dev nD) : Nat :=
  let c0_i32_178 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_125 : BitVec 32 := 2#32
  let v249 : BitVec 32 := Scalar.addi v2 c2_i32_125
  let c8_i32_126 : BitVec 32 := 8#32
  let c0_i32_127 : BitVec 32 := 0#32
  let v250 : BitVec 1 := Scalar.cmpi .eq c8_i32_126 c0_i32_127
  let c1_i32_128 : BitVec 32 := 1#32
  let v251 : BitVec 32 := Scalar.select v250 c1_i32_128 c8_i32_126
  let v252 : BitVec 32 := Scalar.remsi v249 v251
  let c0_i32_130 : BitVec 32 := 0#32
  let v254 : BitVec 1 := Scalar.cmpi .slt v252 c0_i32_130
  let c0_i32_131 : BitVec 32 := 0#32
  let v255 : BitVec 1 := Scalar.cmpi .slt v251 c0_i32_131
  let v256 : BitVec 1 := Scalar.xori v254 v255
  let c0_i32_129 : BitVec 32 := 0#32
  let v253 : BitVec 1 := Scalar.cmpi .ne v252 c0_i32_129
  let v257 : BitVec 1 := Scalar.andi v256 v253
  let v258 : BitVec 32 := Scalar.addi v252 v251
  let v259 : BitVec 32 := Scalar.select v257 v258 v252
  let c1_i32_177 : BitVec 32 := 1#32
  let v383 : BitVec 32 := Scalar.muli v259 c1_i32_177
  let v384 : BitVec 32 := Scalar.addi c0_i32_178 v383
  v384.toNat
def k0_dev10 (d0 : Dev nD) : Nat :=
  let c0_i32_236 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_183 : BitVec 32 := 3#32
  let v393 : BitVec 32 := Scalar.addi v2 c3_i32_183
  let c8_i32_184 : BitVec 32 := 8#32
  let c0_i32_185 : BitVec 32 := 0#32
  let v394 : BitVec 1 := Scalar.cmpi .eq c8_i32_184 c0_i32_185
  let c1_i32_186 : BitVec 32 := 1#32
  let v395 : BitVec 32 := Scalar.select v394 c1_i32_186 c8_i32_184
  let v396 : BitVec 32 := Scalar.remsi v393 v395
  let c0_i32_188 : BitVec 32 := 0#32
  let v398 : BitVec 1 := Scalar.cmpi .slt v396 c0_i32_188
  let c0_i32_189 : BitVec 32 := 0#32
  let v399 : BitVec 1 := Scalar.cmpi .slt v395 c0_i32_189
  let v400 : BitVec 1 := Scalar.xori v398 v399
  let c0_i32_187 : BitVec 32 := 0#32
  let v397 : BitVec 1 := Scalar.cmpi .ne v396 c0_i32_187
  let v401 : BitVec 1 := Scalar.andi v400 v397
  let v402 : BitVec 32 := Scalar.addi v396 v395
  let v403 : BitVec 32 := Scalar.select v401 v402 v396
  let c1_i32_235 : BitVec 32 := 1#32
  let v527 : BitVec 32 := Scalar.muli v403 c1_i32_235
  let v528 : BitVec 32 := Scalar.addi c0_i32_236 v527
  v528.toNat
def k0_dev11 (d0 : Dev nD) : Nat :=
  let c0_i32_294 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_241 : BitVec 32 := 4#32
  let v537 : BitVec 32 := Scalar.addi v2 c4_i32_241
  let c8_i32_242 : BitVec 32 := 8#32
  let c0_i32_243 : BitVec 32 := 0#32
  let v538 : BitVec 1 := Scalar.cmpi .eq c8_i32_242 c0_i32_243
  let c1_i32_244 : BitVec 32 := 1#32
  let v539 : BitVec 32 := Scalar.select v538 c1_i32_244 c8_i32_242
  let v540 : BitVec 32 := Scalar.remsi v537 v539
  let c0_i32_246 : BitVec 32 := 0#32
  let v542 : BitVec 1 := Scalar.cmpi .slt v540 c0_i32_246
  let c0_i32_247 : BitVec 32 := 0#32
  let v543 : BitVec 1 := Scalar.cmpi .slt v539 c0_i32_247
  let v544 : BitVec 1 := Scalar.xori v542 v543
  let c0_i32_245 : BitVec 32 := 0#32
  let v541 : BitVec 1 := Scalar.cmpi .ne v540 c0_i32_245
  let v545 : BitVec 1 := Scalar.andi v544 v541
  let v546 : BitVec 32 := Scalar.addi v540 v539
  let v547 : BitVec 32 := Scalar.select v545 v546 v540
  let c1_i32_293 : BitVec 32 := 1#32
  let v671 : BitVec 32 := Scalar.muli v547 c1_i32_293
  let v672 : BitVec 32 := Scalar.addi c0_i32_294 v671
  v672.toNat
def k0_dev12 (d0 : Dev nD) : Nat :=
  let c0_i32_352 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_299 : BitVec 32 := 5#32
  let v681 : BitVec 32 := Scalar.addi v2 c5_i32_299
  let c8_i32_300 : BitVec 32 := 8#32
  let c0_i32_301 : BitVec 32 := 0#32
  let v682 : BitVec 1 := Scalar.cmpi .eq c8_i32_300 c0_i32_301
  let c1_i32_302 : BitVec 32 := 1#32
  let v683 : BitVec 32 := Scalar.select v682 c1_i32_302 c8_i32_300
  let v684 : BitVec 32 := Scalar.remsi v681 v683
  let c0_i32_304 : BitVec 32 := 0#32
  let v686 : BitVec 1 := Scalar.cmpi .slt v684 c0_i32_304
  let c0_i32_305 : BitVec 32 := 0#32
  let v687 : BitVec 1 := Scalar.cmpi .slt v683 c0_i32_305
  let v688 : BitVec 1 := Scalar.xori v686 v687
  let c0_i32_303 : BitVec 32 := 0#32
  let v685 : BitVec 1 := Scalar.cmpi .ne v684 c0_i32_303
  let v689 : BitVec 1 := Scalar.andi v688 v685
  let v690 : BitVec 32 := Scalar.addi v684 v683
  let v691 : BitVec 32 := Scalar.select v689 v690 v684
  let c1_i32_351 : BitVec 32 := 1#32
  let v815 : BitVec 32 := Scalar.muli v691 c1_i32_351
  let v816 : BitVec 32 := Scalar.addi c0_i32_352 v815
  v816.toNat
def k0_dev13 (d0 : Dev nD) : Nat :=
  let c0_i32_410 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_357 : BitVec 32 := 6#32
  let v825 : BitVec 32 := Scalar.addi v2 c6_i32_357
  let c8_i32_358 : BitVec 32 := 8#32
  let c0_i32_359 : BitVec 32 := 0#32
  let v826 : BitVec 1 := Scalar.cmpi .eq c8_i32_358 c0_i32_359
  let c1_i32_360 : BitVec 32 := 1#32
  let v827 : BitVec 32 := Scalar.select v826 c1_i32_360 c8_i32_358
  let v828 : BitVec 32 := Scalar.remsi v825 v827
  let c0_i32_362 : BitVec 32 := 0#32
  let v830 : BitVec 1 := Scalar.cmpi .slt v828 c0_i32_362
  let c0_i32_363 : BitVec 32 := 0#32
  let v831 : BitVec 1 := Scalar.cmpi .slt v827 c0_i32_363
  let v832 : BitVec 1 := Scalar.xori v830 v831
  let c0_i32_361 : BitVec 32 := 0#32
  let v829 : BitVec 1 := Scalar.cmpi .ne v828 c0_i32_361
  let v833 : BitVec 1 := Scalar.andi v832 v829
  let v834 : BitVec 32 := Scalar.addi v828 v827
  let v835 : BitVec 32 := Scalar.select v833 v834 v828
  let c1_i32_409 : BitVec 32 := 1#32
  let v959 : BitVec 32 := Scalar.muli v835 c1_i32_409
  let v960 : BitVec 32 := Scalar.addi c0_i32_410 v959
  v960.toNat
def k0_dev14 (d0 : Dev nD) : Nat :=
  let c0_i32_468 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_415 : BitVec 32 := 7#32
  let v969 : BitVec 32 := Scalar.addi v2 c7_i32_415
  let c8_i32_416 : BitVec 32 := 8#32
  let c0_i32_417 : BitVec 32 := 0#32
  let v970 : BitVec 1 := Scalar.cmpi .eq c8_i32_416 c0_i32_417
  let c1_i32_418 : BitVec 32 := 1#32
  let v971 : BitVec 32 := Scalar.select v970 c1_i32_418 c8_i32_416
  let v972 : BitVec 32 := Scalar.remsi v969 v971
  let c0_i32_420 : BitVec 32 := 0#32
  let v974 : BitVec 1 := Scalar.cmpi .slt v972 c0_i32_420
  let c0_i32_421 : BitVec 32 := 0#32
  let v975 : BitVec 1 := Scalar.cmpi .slt v971 c0_i32_421
  let v976 : BitVec 1 := Scalar.xori v974 v975
  let c0_i32_419 : BitVec 32 := 0#32
  let v973 : BitVec 1 := Scalar.cmpi .ne v972 c0_i32_419
  let v977 : BitVec 1 := Scalar.andi v976 v973
  let v978 : BitVec 32 := Scalar.addi v972 v971
  let v979 : BitVec 32 := Scalar.select v977 v978 v972
  let c1_i32_467 : BitVec 32 := 1#32
  let v1103 : BitVec 32 := Scalar.muli v979 c1_i32_467
  let v1104 : BitVec 32 := Scalar.addi c0_i32_468 v1103
  v1104.toNat
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_473 : BitVec 32 := 256#32
  let v1114 : BitVec 32 := Scalar.muli v2 c256_i32_473
  let v1115 : Index := Scalar.indexCast v1114
  let c0_474 : Index := 0#32
  ![v1115.toNat, 0]
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_480 : BitVec 32 := 256#32
  let v1130 : BitVec 32 := Scalar.muli v2 c256_i32_480
  let v1131 : Index := Scalar.indexCast v1130
  let c0_481 : Index := 0#32
  ![v1131.toNat, 0]
abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2048x512 : Shape := ⟨2, ![2048, 512]⟩
abbrev S512x32 : Shape := ⟨2, ![512, 32]⟩
abbrev S2048x1 : Shape := ⟨2, ![2048, 1]⟩
abbrev S32x512x1024 : Shape := ⟨3, ![32, 512, 1024]⟩
abbrev S512x1024 : Shape := ⟨2, ![512, 1024]⟩
abbrev S2048x32 : Shape := ⟨2, ![2048, 32]⟩
abbrev S_ : Shape := ⟨0, ![]⟩
abbrev S2048 : Shape := ⟨1, ![2048]⟩
abbrev S2048x1024 : Shape := ⟨2, ![2048, 1024]⟩
abbrev S2048x1x1 : Shape := ⟨3, ![2048, 1, 1]⟩
abbrev S1 : Shape := ⟨1, ![1]⟩
abbrev S1x1x1 : Shape := ⟨3, ![1, 1, 1]⟩
abbrev S2048x512x1024 : Shape := ⟨3, ![2048, 512, 1024]⟩

abbrev nBuf : Space → Nat
  | .hbm => 54
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S512x32, .f32⟩
  | .hbm, ⟨2, _⟩ => ⟨S2048x1, .i32⟩
  | .hbm, ⟨3, _⟩ => ⟨S32x512x1024, .f32⟩
  | .hbm, ⟨4, _⟩ => ⟨S512x1024, .f32⟩
  | .hbm, ⟨5, _⟩ => ⟨S2048x32, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S2048x32, .f32⟩
  | .hbm, ⟨10, _⟩ => ⟨S2048x32, .f32⟩
  | .hbm, ⟨11, _⟩ => ⟨S2048x32, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S2048x32, .f32⟩
  | .hbm, ⟨16, _⟩ => ⟨S2048x32, .f32⟩
  | .hbm, ⟨17, _⟩ => ⟨S2048x1024, .f32⟩
  | .hbm, ⟨18, _⟩ => ⟨S2048, .i32⟩
  | .hbm, ⟨19, _⟩ => ⟨S_, .i32⟩
  | .hbm, ⟨20, _⟩ => ⟨S2048x1, .i32⟩
  | .hbm, ⟨21, _⟩ => ⟨S2048x1, .i1⟩
  | .hbm, ⟨22, _⟩ => ⟨S_, .i32⟩
  | .hbm, ⟨23, _⟩ => ⟨S2048x1, .i32⟩
  | .hbm, ⟨24, _⟩ => ⟨S2048x1, .i32⟩
  | .hbm, ⟨25, _⟩ => ⟨S2048x1, .i32⟩
  | .hbm, ⟨26, _⟩ => ⟨S2048x1x1, .i32⟩
  | .hbm, ⟨27, _⟩ => ⟨S1, .i32⟩
  | .hbm, ⟨28, _⟩ => ⟨S_, .i32⟩
  | .hbm, ⟨29, _⟩ => ⟨S2048x1x1, .i32⟩
  | .hbm, ⟨30, _⟩ => ⟨S2048x1x1, .i1⟩
  | .hbm, ⟨31, _⟩ => ⟨S1x1x1, .i32⟩
  | .hbm, ⟨32, _⟩ => ⟨S2048x1x1, .i32⟩
  | .hbm, ⟨33, _⟩ => ⟨S2048x1x1, .i1⟩
  | .hbm, ⟨34, _⟩ => ⟨S2048x1x1, .i1⟩
  | .hbm, ⟨35, _⟩ => ⟨S_, .i1⟩
  | .hbm, ⟨36, _⟩ => ⟨S2048x1, .i1⟩
  | .hbm, ⟨37, _⟩ => ⟨S2048x1, .f32⟩
  | .hbm, ⟨38, _⟩ => ⟨S_, .f32⟩
  | .hbm, ⟨39, _⟩ => ⟨S2048x1, .f32⟩
  | .hbm, ⟨40, _⟩ => ⟨S2048x1, .f32⟩
  | .hbm, ⟨41, _⟩ => ⟨S_, .i32⟩
  | .hbm, ⟨42, _⟩ => ⟨S2048, .i32⟩
  | .hbm, ⟨43, _⟩ => ⟨S2048, .i1⟩
  | .hbm, ⟨44, _⟩ => ⟨S_, .i32⟩
  | .hbm, ⟨45, _⟩ => ⟨S2048, .i32⟩
  | .hbm, ⟨46, _⟩ => ⟨S2048, .i32⟩
  | .hbm, ⟨47, _⟩ => ⟨S2048, .i32⟩
  | .hbm, ⟨48, _⟩ => ⟨S2048x1, .i32⟩
  | .hbm, ⟨49, _⟩ => ⟨S2048x512x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_cst : Ref sig .tc := ⟨.hbm, 38, rfl⟩
abbrev main_call0_v14 : Ref sig .tc := ⟨.hbm, 39, rfl⟩
abbrev main_v12 : Ref sig .tc := ⟨.hbm, 40, rfl⟩
abbrev main_c : Ref sig .tc := ⟨.hbm, 41, rfl⟩
abbrev main_v13 : Ref sig .tc := ⟨.hbm, 42, rfl⟩
abbrev main_v14 : Ref sig .tc := ⟨.hbm, 43, rfl⟩
abbrev main_c_1 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩

abbrev nD : Nat := 1
abbrev τ : Topo := Topo.v7x

variable {F : FTy → Type} [FloatOps F]
-- ==== Proof.Protocol.lean ====
/-
# The exchange between the eight devices

Every device sends one slot of packed rows to each of the seven others. At step `k` (of seven) device `c`
sends to device `nx k c`, which is `k + 1` further around the mesh. The sender of step `k` fills slot `k` of
its send buffer and transfers it into slot `k` of the landing buffer of `nx k c`.

Before any transfer each device signals the barrier semaphore of the seven others and waits for seven
signals. The signal of device `p` to device `d` stands for one thing: the slot of `p`'s landing buffer that
`d` will fill is free. So a signal hands that slot over, and after the wait a device holds, for each step,
the slot it is about to fill at its peer.

This module fixes the semaphores and slots, and says as a schedule what each semaphore's round hands over:
the barrier as above, a send semaphore the sender's own slot back, a receive semaphore the landing slot
holding what the source packed. What the devices pack (`S`) is a parameter here.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Ring
public import Idealize.ShloMosaic.Lib.Writes
public import Idealize.ShloMosaic.Lib.Tactic

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Resources -/

/-- The exchange's own rounds: a barrier cell has seven duties, named by the step of their payer. -/
abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Peers -/

set_option backward.proofsInPublic true in
/-- The device that `c` sends to at step `k`. -/
def nx (k : Fin 7) (c : Dev nD) : Dev nD := ⟨(c.val + k.val + 1) % 8, Nat.mod_lt _ (by decide)⟩

/-- The step that leads back. -/
abbrev back (k : Fin 7) : Fin 7 := Fin.rev k

theorem nx_back (k : Fin 7) (c : Dev nD) : nx (back k) (nx k c) = c := by revert k c; decide
theorem back_nx (k : Fin 7) (c : Dev nD) : nx k (nx (back k) c) = c := by revert k c; decide

/-- Sending at step `k`, all devices at once: a permutation of the pairs of device and step. -/
def around : Dev nD × Fin 7 ≃ Dev nD × Fin 7 where
  toFun p := (nx p.2 p.1, p.2)
  invFun p := (nx (back p.2) p.1, p.2)
  left_inv p := by ext1 <;> simp only [nx_back]
  right_inv p := by ext1 <;> simp only [back_nx]

/-! ## Slots -/

abbrev sendM : Memref sig .tc .vmem S7x96x1024 .bf16 := Memref.whole cc0_scratch0
abbrev commM : Memref sig .tc .vmem S7x96x1024 .bf16 := Memref.whole cc0_scratch1

theorem slot_inb (k : Fin 7) : ∀ a, (![k.val, 0, 0] : Fin 3 → Nat) a + S1x96x1024.size a ≤ S7x96x1024.size a := by
  revert k; decide

/-- The rectangle of slot `k`. -/
abbrev rslot (k : Fin 7) : Rect S7x96x1024 := Rect.unit (s := S7x96x1024) ![k.val, 0, 0] S1x96x1024.size (slot_inb k)

/-- Slot `k` of a buffer of seven, as a transfer names it. -/
abbrev slot (M : Memref sig .tc .vmem S7x96x1024 .bf16) (k : Fin 7) : Memref sig .tc .vmem S96x1024 .bf16 :=
  (M.slice (rslot k) (fun _ => rfl)).squeeze S96x1024 squeezes_S1x96x1024_S96x1024

theorem slot_set (M : Memref sig .tc .vmem S7x96x1024 .bf16) (k : Fin 7) : (slot M k).view.set = (M.access (rslot k)).set :=
  View.set_reshape _ _

/-- The credit of one slot's transfer. -/
abbrev N : ℕ := (slot commM 0).view.dmaCredit
theorem N_pos : 0 < N := View.dmaCredit_pos _ (by decide)

/-- Slot `k` of device `c`'s send buffer, and of its landing buffer, held at the contents `f`. -/
def sendPts (c : Dev nD) (k : Fin 7) (f : Buf (Elt F) ((c : Thread nD τ).loc cc0_scratch0)) : sProp 𝕄 :=
  ((c : Thread nD τ).loc cc0_scratch0) ↦[(sendM.access (rslot k)).set]{fullShare} f
def commPts (c : Dev nD) (k : Fin 7) (f : Buf (Elt F) ((c : Thread nD τ).loc cc0_scratch1)) : sProp 𝕄 :=
  ((c : Thread nD τ).loc cc0_scratch1) ↦[(commM.access (rslot k)).set]{fullShare} f

omit [FloatOps F] in
instance sendPts_storable (c : Dev nD) (k f) : BI.Storable (upEmb : UEmb _ 𝕄) (sendPts (F := F) c k f) := by unfold sendPts; infer_instance
omit [FloatOps F] in
instance commPts_storable (c : Dev nD) (k f) : BI.Storable (upEmb : UEmb _ 𝕄) (commPts (F := F) c k f) := by unfold commPts; infer_instance

theorem rslot_mem (k : Fin 7) (i : S7x96x1024.Idx) : i ∈ (rslot k).set ↔ (i 0).val = k.val := by
  rw [Rect.mem_set_unit]
  constructor
  · intro h
    have := h 0
    simp only [Matrix.cons_val_zero] at this
    have h1 : S1x96x1024.size 0 = 1 := rfl
    omega
  · intro h a
    match a with
    | ⟨0, _⟩ =>
      have h1 : S1x96x1024.size 0 = 1 := rfl
      show k.val ≤ (i 0).val ∧ (i 0).val < k.val + S1x96x1024.size 0
      omega
    | ⟨1, _⟩ =>
      show 0 ≤ (i 1).val ∧ (i 1).val < 0 + S1x96x1024.size 1
      have := (i 1).isLt
      exact ⟨Nat.zero_le _, by simpa using this⟩
    | ⟨2, _⟩ =>
      show 0 ≤ (i 2).val ∧ (i 2).val < 0 + S1x96x1024.size 2
      have := (i 2).isLt
      exact ⟨Nat.zero_le _, by simpa using this⟩

theorem slots_disjoint (k k' : Fin 7) (h : k ≠ k') : Disjoint (rslot k).set (rslot k').set :=
  Finset.disjoint_left.mpr fun i hi hi' => h (Fin.ext (((rslot_mem k i).mp hi).symm.trans ((rslot_mem k' i).mp hi')))

theorem slots_cover : Finset.univ.biUnion (fun k : Fin 7 => (rslot k).set) = Finset.univ := by
  ext i
  simp only [Finset.mem_biUnion, Finset.mem_univ, true_and, iff_true]
  exact ⟨⟨(i 0).val, (i 0).isLt⟩, (rslot_mem _ i).mpr rfl⟩

/-! ## Semaphores -/

theorem sem_inb (k : Fin 7) : ∀ a, (![k.val] : Fin 1 → Nat) a + S1.size a ≤ S7.size a := by revert k; decide

abbrev barS : Sem sig := (SemArray.scalar (sig.barrier 0 rfl) : Sems sig S_).sem
abbrev sendS (k : Fin 7) : DmaSem sig :=
  ((cc0_scratch2.slice (Rect.unit (s := S7) ![k.val] S1.size (sem_inb k))).squeeze S_ squeezes_S1_S_).sem
abbrev recvS (k : Fin 7) : DmaSem sig :=
  ((cc0_scratch3.slice (Rect.unit (s := S7) ![k.val] S1.size (sem_inb k))).squeeze S_ squeezes_S1_S_).sem

/-- The kinds of semaphore: the barrier (`none`), the send semaphore (`false`) and the receive semaphore
    (`true`) of each step. -/
abbrev CK : Type := Option (Bool × Fin 7)
def csem : CK → SemLoc sig
  | none => .reg barS
  | some (false, k) => .dma (sendS k)
  | some (true, k) => .dma (recvS k)
theorem csem_injective : Function.Injective csem := by
  have h : ∀ a b : CK, csem a = csem b → a = b := by decide
  exact fun a b => h a b

abbrev kcell (ck : Dev nD × CK) : GSem nD τ sig := ((ck.1 : Thread nD τ), csem ck.2)
abbrev barCell (c : Dev nD) : GSem nD τ sig := ((c : Thread nD τ), .reg barS)
abbrev sendCell (c : Dev nD) (k : Fin 7) : GSem nD τ sig := ((c : Thread nD τ), .dma (sendS k))
abbrev recvCell (c : Dev nD) (k : Fin 7) : GSem nD τ sig := ((c : Thread nD τ), .dma (recvS k))

theorem kcell_injective : Function.Injective kcell := by
  rintro ⟨c, k⟩ ⟨c', k'⟩ h
  have h1 : c = c' := by have := congrArg (fun g : GSem nD τ sig => g.1.1) h; exact this
  subst h1
  have h2 : k = k' := csem_injective (congrArg Prod.snd h)
  subst h2; rfl

/-- Which kind a semaphore is. -/
def kind (s : SemLoc sig) : Option CK := Function.partialInv csem s
theorem kind_csem (κ : CK) : kind (csem κ) = some κ := Function.partialInv_left csem_injective κ
theorem kind_bar : kind (.reg barS) = some none := kind_csem none
theorem kind_send (k : Fin 7) : kind (.dma (sendS k)) = some (some (false, k)) := kind_csem (some (false, k))
theorem kind_recv (k : Fin 7) : kind (.dma (recvS k)) = some (some (true, k)) := kind_csem (some (true, k))

/-! ## The schedule -/

/-- What a device packs for each step. -/
abbrev Packed (F : FTy → Type) : Type := Dev nD → Fin 7 → S1x96x1024.Idx → Elt F .bf16

variable (S : Packed F)

/-- The payer of duty `k` at `d`'s barrier is the device `d` sends to at step `back k`; it hands over the slot
    that this transfer fills. -/
def barPay (d : Dev nD) (k : Fin 7) : sProp 𝕄 := iprop(∃ f, commPts (F := F) (nx (back k) d) (back k) f)
def sendPay (c : Dev nD) (k : Fin 7) : sProp 𝕄 := iprop(∃ f, sendPts (F := F) c k f)
/-- The landing slot holding what the device `k + 1` before packed for this step. -/
def recvPay (c : Dev nD) (k : Fin 7) : sProp 𝕄 :=
  iprop(∃ f, ⌜(commM.access (rslot k)).read (Elt F) f = S (nx (back k) c) k⌝ ∗ commPts c k f)

/-- One round, round 0. -/
def Rd : Rounds.Schedule (GSem nD τ sig) (Fin 7) 𝕄 where
  duties g r := if r = 0 ∧ g.1.2 = .tc then
      match kind g.2 with
      | some none => Finset.univ
      | some (some _) => {0}
      | none => ∅
    else ∅
  unitless _ := False
  amount g _ _ := if g.2 = .reg barS then 1 else N
  payload g _ d :=
    match kind g.2 with
    | some none => barPay g.1.1 d
    | some (some (false, k)) => sendPay g.1.1 k
    | some (some (true, k)) => recvPay S g.1.1 k
    | none => iprop(emp)
  amount_pos g _ _ _ := by
    by_cases h : g.2 = .reg barS
    · rw [if_pos h]; exact Nat.one_pos
    · rw [if_neg h]; exact N_pos

omit [FloatOps F] in
instance Rd_payload_storable (g : GSem nD τ sig) (r : ℕ) (d : Fin 7) :
    BI.Storable (upEmb : UEmb _ 𝕄) ((Rd S).payload g r d) := by
  show BI.Storable upEmb (match kind g.2 with
    | some none => barPay g.1.1 d
    | some (some (false, k)) => sendPay g.1.1 k
    | some (some (true, k)) => recvPay S g.1.1 k
    | none => iprop(emp))
  unfold barPay sendPay recvPay
  split <;> infer_instance

section Sched
variable (c : Dev nD) (k : Fin 7)

theorem send_ne_bar : (SemLoc.dma (sendS k) : SemLoc sig) ≠ .reg barS := fun h => by cases h
theorem recv_ne_bar : (SemLoc.dma (recvS k) : SemLoc sig) ≠ .reg barS := fun h => by cases h

omit [FloatOps F] in
theorem duties_bar : (Rd S).duties (barCell c) 0 = Finset.univ := by
  dsimp only [Rd]; rw [if_pos ⟨rfl, rfl⟩, kind_bar]
omit [FloatOps F] in
theorem duties_send : (Rd S).duties (sendCell c k) 0 = {0} := by
  dsimp only [Rd]; rw [if_pos ⟨rfl, rfl⟩, kind_send]
omit [FloatOps F] in
theorem duties_recv : (Rd S).duties (recvCell c k) 0 = {0} := by
  dsimp only [Rd]; rw [if_pos ⟨rfl, rfl⟩, kind_recv]
omit [FloatOps F] in
theorem duties_later (g : GSem nD τ sig) : ∀ r, 1 ≤ r → (Rd S).duties g r = ∅ :=
  fun r hr => by dsimp only [Rd]; rw [if_neg fun h => by omega]

omit [FloatOps F] in
theorem amount_bar (d : Fin 7) : (Rd S).amount (barCell c) 0 d = 1 := by dsimp only [Rd]; exact if_pos rfl
omit [FloatOps F] in
theorem amount_send (d : Fin 7) : (Rd S).amount (sendCell c k) 0 d = N := by dsimp only [Rd]; exact if_neg (send_ne_bar k)
omit [FloatOps F] in
theorem amount_recv (d : Fin 7) : (Rd S).amount (recvCell c k) 0 d = N := by dsimp only [Rd]; exact if_neg (recv_ne_bar k)

omit [FloatOps F] in
theorem expect_bar : (Rd S).expect (barCell c) 0 = 7 := by
  unfold Schedule.expect Schedule.amountOf
  rw [duties_bar, Finset.sum_congr rfl fun d _ => amount_bar S c d, Finset.sum_const, Finset.card_univ, Fintype.card_fin, smul_eq_mul]
omit [FloatOps F] in
theorem expect_send : (Rd S).expect (sendCell c k) 0 = N := by
  unfold Schedule.expect Schedule.amountOf; rw [duties_send, Finset.sum_singleton, amount_send]
omit [FloatOps F] in
theorem expect_recv : (Rd S).expect (recvCell c k) 0 = N := by
  unfold Schedule.expect Schedule.amountOf; rw [duties_recv, Finset.sum_singleton, amount_recv]

omit [FloatOps F] in
theorem payload_bar (d : Fin 7) : (Rd S).payload (barCell c) 0 d = barPay c d := by dsimp only [Rd]; rw [kind_bar]
omit [FloatOps F] in
theorem payload_send (d : Fin 7) : (Rd S).payload (sendCell c k) 0 d = sendPay c k := by dsimp only [Rd]; rw [kind_send]
omit [FloatOps F] in
theorem payload_recv (d : Fin 7) : (Rd S).payload (recvCell c k) 0 d = recvPay S c k := by dsimp only [Rd]; rw [kind_recv]

omit [FloatOps F] in
/-- The whole of the barrier's round: for each step the slot at the peer that the transfer will fill. -/
theorem rest_bar : bigSep ((Rd S).duties (barCell c) 0 \ ∅) (fun d => (Rd S).payload (barCell c) 0 d)
    = bigSep Finset.univ fun k : Fin 7 => iprop(∃ f, commPts (F := F) (nx k c) k f) := by
  rw [Finset.sdiff_empty, duties_bar, bigSep_univ_equiv Fin.revPerm (fun d => (Rd S).payload (barCell c) 0 d)]
  refine bigSep_congr fun k _ => ?_
  rw [payload_bar]; unfold barPay
  show iprop(∃ f, commPts (F := F) (nx (Fin.rev (Fin.rev k)) c) (Fin.rev (Fin.rev k)) f) = _
  rw [Fin.rev_rev]
omit [FloatOps F] in
theorem rest_send : bigSep ((Rd S).duties (sendCell c k) 0 \ ∅) (fun d => (Rd S).payload (sendCell c k) 0 d) = sendPay c k := by
  rw [Finset.sdiff_empty, duties_send, bigSep_singleton, payload_send]
omit [FloatOps F] in
theorem rest_recv : bigSep ((Rd S).duties (recvCell c k) 0 \ ∅) (fun d => (Rd S).payload (recvCell c k) 0 d) = recvPay S c k := by
  rw [Finset.sdiff_empty, duties_recv, bigSep_singleton, payload_recv]

end Sched

/-! ## What each device owes; the levels -/

/-- What is still owed to the receive cells when the transfers of the steps before `j` are issued; -/
def Orecv (j : ℕ) (c : Dev nD) : CellTallies nD τ sig Unit :=
  ∑ k ∈ Finset.univ.filter (fun k : Fin 7 => j ≤ k.val), tallyAt (recvCell (nx k c) k) () N
/-- and when only the signals of the steps before `i` are. -/
def Obar (i : ℕ) (c : Dev nD) : CellTallies nD τ sig Unit :=
  Orecv 0 c + ∑ k ∈ Finset.univ.filter (fun k : Fin 7 => i ≤ k.val), tallyAt (barCell (nx k c)) () 1

theorem steps_from (k : Fin 7) :
    Finset.univ.filter (fun j : Fin 7 => k.val ≤ j.val) = insert k (Finset.univ.filter fun j : Fin 7 => k.val + 1 ≤ j.val) := by
  revert k; decide
theorem not_mem_steps_after (k : Fin 7) : k ∉ Finset.univ.filter fun j : Fin 7 => k.val + 1 ≤ j.val := by
  revert k; decide

theorem Orecv_step (k : Fin 7) (c : Dev nD) : Orecv k.val c = Orecv (k.val + 1) c + tallyAt (recvCell (nx k c) k) () N := by
  unfold Orecv; rw [steps_from, Finset.sum_insert (not_mem_steps_after k), add_comm]
theorem Obar_step (k : Fin 7) (c : Dev nD) : Obar k.val c = Obar (k.val + 1) c + tallyAt (barCell (nx k c)) () 1 := by
  unfold Obar; rw [steps_from, Finset.sum_insert (not_mem_steps_after k), add_assoc]
  congr 1; rw [add_comm]
theorem Orecv_end (c : Dev nD) : Orecv 7 c = 0 := by
  unfold Orecv; rw [show Finset.univ.filter (fun k : Fin 7 => 7 ≤ k.val) = ∅ from by decide, Finset.sum_empty]
theorem Obar_end (c : Dev nD) : Obar 7 c = Orecv 0 c := by
  unfold Obar; rw [show Finset.univ.filter (fun k : Fin 7 => 7 ≤ k.val) = ∅ from by decide, Finset.sum_empty, add_zero]

theorem sum_tally_apply (s : Finset (Fin 7)) (f : Fin 7 → GSem nD τ sig) (n : ℕ) (g : GSem nD τ sig) (u : Unit) :
    (∑ k ∈ s, tallyAt (f k) () n : CellTallies nD τ sig Unit) g u = ∑ k ∈ s, if g = f k then n else 0 := by
  rw [Finset.sum_apply, Finsupp.finset_sum_apply]
  refine Finset.sum_congr rfl fun k _ => ?_
  rw [tallyAt_apply]
  by_cases h : g = f k
  · rw [if_pos ⟨h, rfl⟩, if_pos h]
  · rw [if_neg fun h' => h h'.1, if_neg h]

theorem sum_tally_pos {s : Finset (Fin 7)} {f : Fin 7 → GSem nD τ sig} {n : ℕ} {g : GSem nD τ sig} {u : Unit}
    (h : 0 < (∑ k ∈ s, tallyAt (f k) () n : CellTallies nD τ sig Unit) g u) : ∃ k, g = f k := by
  rw [sum_tally_apply] at h
  by_contra hn
  rw [Finset.sum_eq_zero fun k _ => if_neg fun h' => hn ⟨k, h'⟩] at h
  exact Nat.lt_irrefl 0 h

def L (g : GSem nD τ sig) : Finset Unit := if g.1.2 = .tc then {()} else ∅
/-- Barrier cells at 1, receive cells at 2, everything else at 0. -/
def lv (g : GSem nD τ sig) (_ : Unit) : ℕ :=
  match kind g.2 with
  | some none => 1
  | some (some (true, _)) => 2
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by dsimp only [lv]; rw [kind_bar]
theorem lv_recv (c : Dev nD) (k : Fin 7) (u : Unit) : lv (recvCell c k) u = 2 := by dsimp only [lv]; rw [kind_recv]

theorem Obar_pos {i : ℕ} {c : Dev nD} {g : GSem nD τ sig} {u : Unit} (h : 0 < Obar i c g u) :
    (∃ k, g = recvCell (nx k c) k) ∨ ∃ k, g = barCell (nx k c) := by
  unfold Obar at h
  rw [Pi.add_apply, Finsupp.add_apply] at h
  rcases Nat.add_pos_iff_pos_or_pos.mp h with h | h
  · exact .inl (sum_tally_pos h)
  · exact .inr (sum_tally_pos h)

omit [FloatOps F] in
/-- At its barrier wait a device owes receive credit only, which lies above its barrier cell. -/
theorem mayWait_bar (c : Dev nD) : (levAts L lv : sProp 𝕄) ⊢ MayWait (c : Thread nD τ) (.reg barS) () (Orecv 0 c) :=
  MayOwe.of_cut (L := L) (lev := lv) 1 (fun p hp => by rw [Finset.mem_singleton.mp hp, L_tc]; exact Finset.mem_singleton_self _)
    (fun g u hg => by obtain ⟨k, rfl⟩ := sum_tally_pos hg; exact Finset.mem_singleton_self _)
    (fun p hp => by rw [Finset.mem_singleton.mp hp, lv_bar])
    (fun g u hg => by obtain ⟨k, rfl⟩ := sum_tally_pos hg; rw [lv_recv]; decide)

omit [FloatOps F] in
/-- The staging waits lie below everything. -/
theorem mayWait_stage (c : Dev nD) (q : DmaSem sig) (hq : ∀ k, SemLoc.dma q ≠ .dma (recvS k)) (O : CellTallies nD τ sig Unit)
    (hO : O = Obar 0 c ∨ O = 0) : (levAts L lv : sProp 𝕄) ⊢ MayWait (c : Thread nD τ) (.dma q) () O := by
  have h0 : lv ((c : Thread nD τ), .dma q) () = 0 := by
    dsimp only [lv]
    rcases hk : kind (.dma q) with _ | _ | ⟨_ | _, k⟩
    · rfl
    · exact absurd ((Function.partialInv_of_injective csem_injective _ _).mp hk) (fun h => by cases h)
    · rfl
    · exact absurd ((Function.partialInv_of_injective csem_injective _ _).mp hk).symm (hq k)
  rcases hO with rfl | rfl
  · refine MayOwe.of_cut (L := L) (lev := lv) 0 (fun p hp => by rw [Finset.mem_singleton.mp hp, L_tc]; exact Finset.mem_singleton_self _)
      (fun g u hg => by rcases Obar_pos hg with ⟨k, rfl⟩ | ⟨k, rfl⟩ <;> exact Finset.mem_singleton_self _)
      (fun p hp => by rw [Finset.mem_singleton.mp hp, h0])
      (fun g u hg => by
        rcases Obar_pos hg with ⟨k, rfl⟩ | ⟨k, rfl⟩
        · rw [lv_recv]; decide
        · rw [lv_bar]; decide)
  · rw [MayWait_zero]; iintro -; iempintro

end Cert.KernelIdeal.Moe

end
-- ==== Proof.Steps.lean ====
/-
# The body's steps

One rule for each kind of operation the kernel repeats: signalling a peer, the barrier wait, filling a slot,
sending it, waiting for a landed slot and for a sent one. Each is stated for a step `k`, and for the peer,
slots and semaphores given as whatever the program names them, with the equations saying which they are.
-/
module

public import proofs.«01_k».proof.Proof.Protocol

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (S : Packed F)

abbrev 𝒱₀ : Variants := Variants.none

/-! ## Records -/

/-- Every cell's invariant, under the names `K` it was allocated at, and that every cell is at round 0. -/
def records (K : Dev nD × CK → ℕ) : sProp 𝕄 :=
  iprop((bigSep Finset.univ fun ck : Dev nD × CK => cellInv ER (Rd S) (K ck) (kcell ck))
    ∗ bigSep Finset.univ fun ck : Dev nD × CK => reached ER (kcell ck) 0)

instance records_persistent (K : Dev nD × CK → ℕ) : BI.Persistent (records S K) := by unfold records; infer_instance

omit [FloatOps F] in
theorem inv_at (K : Dev nD × CK → ℕ) (ck : Dev nD × CK) : records S K ⊢ cellInv ER (Rd S) (K ck) (kcell ck) := by
  unfold records
  exact Laws.sep_elim_left.trans (bigSep_elim (Finset.mem_univ ck))
omit [FloatOps F] in
theorem reached_at (K : Dev nD × CK → ℕ) (ck : Dev nD × CK) : records S K ⊢ reached ER (kcell ck) 0 := by
  unfold records
  exact Laws.sep_elim_right.trans (bigSep_elim (Finset.mem_univ ck))

/-- What device `c` owes, whatever it has waited for so far. -/
def owing (c : Dev nD) (O : CellTallies nD τ sig Unit) : sProp 𝕄 := iprop(∃ W, owes (c : Thread nD τ) O W)

/-! ## Slots as a transfer reads and writes them -/

/-- A slot written from another holds what the other reads as. -/
theorem read_transferred (k : Fin 7) (fs : sendM.view.ty.Contents (Elt F)) (fd : commM.view.ty.Contents (Elt F)) :
    (commM.access (rslot k)).read (Elt F) ((slot commM k).view.write (Elt F) fd ((slot sendM k).view.read (Elt F) fs) Finset.univ)
      = (sendM.access (rslot k)).read (Elt F) fs := by
  have h := View.read_write_univ (v := (slot commM k).view) (Val := Elt F) fd ((slot sendM k).view.read (Elt F) fs)
  funext i
  have h' := congrFun h ((Shape.reshapeEquiv (squeezes_S1x96x1024_S96x1024).numel_eq).symm i)
  simpa [slot, View.read] using h'

section
variable (K : Dev nD × CK → ℕ) (c : Dev nD) (k : Fin 7)

/-- Signalling the peer of step `k`: the slot it will fill is handed over. -/
theorem signal_step {n : Dev nD} (hn : n = nx k c) {s : Sem sig} (hs : s = barS) {o o' : CellTallies nD τ sig Unit}
    (ho : o = Obar k.val c) (ho' : o' = Obar (k.val + 1) c)
    {α : Type} {Q : α → sProp 𝕄} {kont : PUnit → Prog (TpuEff nD τ sig (Elt F) Λ₀ .tc) α} :
    iprop(records S K ∗ owing c o ∗ dutyTok ER (barCell (nx k c)) 0 k ∗ (∃ f, commPts (F := F) c (back k) f))
      ⊢ iprop((owing c o' -∗ wp frame (wpE (defs₀ (F := F)) 𝒱₀ (c : Thread nD τ) none) Set.univ (kont ⟨⟩) Q)
          -∗ wp frame (wpE (defs₀ (F := F)) 𝒱₀ (c : Thread nD τ) none) Set.univ
              (.op (.semSignal (n, .tc) s (1#32 : BitVec 32).toInt) kont) Q) := by
  subst hn hs ho ho'
  unfold owing
  iintro ⟨#HR, ⟨%W, HO⟩, Ht, Hf⟩ Hk
  iapply (Rounds.wp_signal 𝒱₀ ER (Rd S) (c : Thread nD τ) none (dst := (nx k c : Thread nD τ)) (κ := K (nx k c, none))
      (d := k) (by rw [duties_bar]; exact Finset.mem_univ _) ((amount_bar S (nx k c) k).trans (by decide)) () (Obar (k.val + 1) c) (Obar_step k c))
    $$ [HO Ht Hf]
  · isplitr; · iapply (inv_at S K (nx k c, none)); iexact HR
    isplitl [HO]; · iexact HO
    isplitl [Ht]; · iexact Ht
    isplitl [Hf]
    · rw [payload_bar]; unfold barPay; rw [nx_back]; iexact Hf
    iapply (reached_at S K (nx k c, none)); iexact HR
  iintro HO
  iapply Hk
  iexists W; iexact HO

/-- The barrier wait: a slot at each peer. -/
theorem barrier_step {s : Sem sig} (hs : s = barS) {o : CellTallies nD τ sig Unit} (ho : o = Orecv 0 c)
    {α : Type} {Q : α → sProp 𝕄} {kont : PUnit → Prog (TpuEff nD τ sig (Elt F) Λ₀ .tc) α} :
    iprop(records S K ∗ levAts L lv ∗ owing c o ∗ cred (tallyAt (barCell c) () 7) ∗ atPos ER (barCell c) 0 ∅ 0)
      ⊢ iprop(((owing c o ∗ semVal (barCell c) 0 ∗ bigSep Finset.univ fun k : Fin 7 => iprop(∃ f, commPts (F := F) (nx k c) k f))
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.semWait s (7#32 : BitVec 32).toInt) kont) Q) := by
  subst hs ho
  unfold owing
  iintro ⟨#HR, #Hlev, ⟨%W, HO⟩, Hc, Hat⟩ Hk
  iapply (Rounds.wp_wait_rest_token 𝒱₀ ER (Rd S) (c : Thread nD τ) none (κ := K (c, none))
      (wpE_semWait_eq 𝒱₀ (c : Thread nD τ) none Set.univ) (Set.mem_univ _) () (O := Orecv 0 c) (W := W) (R := 0) (m := 0) (T := ∅)
      (by rw [expect_bar]; decide)) $$ [Hc HO Hat]
  · isplitr; · iapply (inv_at S K (c, none)); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar S c)) $$ Hpay
  imod (Rounds.cell_close ER (Rd S) (Set.mem_univ (K (c, none))) (fun h => h) (R := 0 + 1) (duties_later S (barCell c))) $$ [Hat] with Hz
  · isplitr; · iapply (inv_at S K (c, none)); iexact HR
    iexact Hat
  iapply Hk
  isplitl [HO]; · iexists _; iexact HO
  isplitl [Hz] <;> iassumption

/-- Filling a slot of the send buffer. -/
theorem fill_step {r : Rect S7x96x1024} (hr : r = rslot k) {w : r.shape.Idx → Elt F .bf16} {hx : (sendM.access r).Stores Finset.univ}
    {hm : (Finset.univ : Finset r.shape.Idx) = Finset.univ ∨ ∀ a, r.stride a = 1}
    {α : Type} {Q : α → sProp 𝕄} {kont : PUnit → Prog (TpuEff nD τ sig (Elt F) Λ₀ .tc) α} :
    iprop(∃ f, sendPts (F := F) c k f)
      ⊢ iprop(((∃ f, ⌜(sendM.access r).read (Elt F) f = w⌝ ∗ sendPts c k f)
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.store sendM r w Finset.univ hx hm) kont) Q) := by
  subst hr
  unfold sendPts
  iintro ⟨%f, H⟩ Hk
  iapply (wp_store 𝒱₀ (c : Thread nD τ) none Set.univ (m := sendM) (r := rslot k) (Mk := Finset.univ) (S := (sendM.access (rslot k)).set) subset_rfl) $$ H
  iintro H
  iapply Hk
  iexists _
  isplitr
  rotate_left
  · iexact H
  · ipureintro; exact View.read_write_univ _ _

/-- Sending slot `k`, filled with what the schedule says, to the peer of step `k`. -/
theorem send_step {n : Dev nD} (hn : n = nx k c) {src dst : Memref sig .tc .vmem S96x1024 .bf16} (hs : src = slot sendM k) (hd : dst = slot commM k)
    {sS sR : DmaSem sig} (hS : sS = sendS k) (hR : sR = recvS k)
    {hsc : (dst : Memref sig (Dev.tc n : Thread nD τ).2.kind .vmem S96x1024 .bf16).view.ref.isScScratch = false}
    {hsrc : src.view.WordExact} {hdst : dst.view.WordExact}
    {hsem : DmaTarget.Typed .vmem (.dma sR) (.remote (Dev.tc n : Thread nD τ) (dst : Memref sig (Dev.tc n : Thread nD τ).2.kind .vmem S96x1024 .bf16) (.dma sS) hsc)}
    {r : Rect S7x96x1024} (hr : r = rslot k) {w : r.shape.Idx → Elt F .bf16} (hw : HEq w (S c k))
    {o o' : CellTallies nD τ sig Unit} (ho : o = Orecv k.val c) (ho' : o' = Orecv (k.val + 1) c)
    {α : Type} {Q : α → sProp 𝕄} {kont : PUnit → Prog (TpuEff nD τ sig (Elt F) Λ₀ .tc) α} :
    iprop(records S K ∗ (∃ f, ⌜(sendM.access r).read (Elt F) f = w⌝ ∗ sendPts c k f) ∗ (∃ f, commPts (F := F) (nx k c) k f) ∗ owing c o
        ∗ dutyTok ER (sendCell c k) 0 0 ∗ dutyTok ER (recvCell (nx k c) k) 0 0)
      ⊢ iprop(((cred (tallyAt (sendCell c k) () N) ∗ owing c o') -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) kont) Q) := by
  subst hn hs hd hS hR hr ho ho'
  cases hw
  unfold owing
  iintro ⟨#HR, ⟨%fs, %hfs, Hs⟩, ⟨%fd, Hd⟩, ⟨%W, HO⟩, Ht, Ht'⟩ Hk
  iapply (Rounds.wp_send_pointsTo 𝒱₀ ER (Rd S) (c : Thread nD τ) none (κ₁ := K (c, some (false, k))) (κ₂ := K (nx k c, some (true, k)))
      (c' := (nx k c : Thread nD τ)) (src := slot sendM k) (dst := slot commM k) (q := fullShare) (fs := fs)
      (r₁ := 0) (r₂ := 0) (d₁ := 0) (d₂ := 0) (fd := fd)
      (by rw [duties_send]; exact Finset.mem_singleton_self _) (by rw [duties_recv]; exact Finset.mem_singleton_self _)
      () () N rfl (amount_send S c k 0) (amount_recv S (nx k c) k 0) (Orecv (k.val + 1) c) (Orecv_step k c) (W := W)
      (by rw [payload_send]; unfold sendPay sendPts; rw [slot_set]; iintro H; iexists fs; iexact H)
      (by
        rw [payload_recv]; unfold recvPay commPts; rw [slot_set, nx_back]
        iintro H; iexists _
        isplitr
        rotate_left
        · iexact H
        · ipureintro; exact (read_transferred k fs fd).trans hfs))
    $$ [Hs Hd HO Ht Ht']
  · isplitr; · iapply (inv_at S K (c, some (false, k))); iexact HR
    isplitr; · iapply (inv_at S K (nx k c, some (true, k))); iexact HR
    isplitl [Hs]; · unfold sendPts; rw [slot_set]; iexact Hs
    isplitl [Hd]; · unfold commPts; rw [slot_set]; iexact Hd
    isplitl [HO]; · iexact HO
    isplitl [Ht]; · iexact Ht
    isplitr; · iapply (reached_at S K (c, some (false, k))); iexact HR
    isplitl [Ht']; · iexact Ht'
    iapply (reached_at S K (nx k c, some (true, k))); iexact HR
  iintro ⟨Hc, HO⟩
  iapply Hk
  isplitl [Hc]; · iexact Hc
  iexists W; iexact HO

/-- Reading a slot of the send buffer before it is filled: whatever is there is not used. -/
theorem stale_step {r : Rect S7x96x1024} (hr : r = rslot k) {hl : sendM.view.LoadsAt r.toLoadRect}
    {α : Type} {Q : α → sProp 𝕄} {kont : (r.toLoadRect.shape.Idx → Elt F .bf16) → Prog (TpuEff nD τ sig (Elt F) Λ₀ .tc) α} :
    iprop(∃ f, sendPts (F := F) c k f)
      ⊢ iprop((∀ v, (∃ f, sendPts (F := F) c k f) -∗ wp frame (wpE (defs₀ (F := F)) 𝒱₀ (c : Thread nD τ) none) Set.univ (kont v) Q)
          -∗ wp frame (wpE (defs₀ (F := F)) 𝒱₀ (c : Thread nD τ) none) Set.univ (.op (.load sendM r.toLoadRect hl) kont) Q) := by
  subst hr
  unfold sendPts
  iintro ⟨%f, H⟩ Hk
  iapply (wp_load_rect 𝒱₀ (c : Thread nD τ) none Set.univ (m := sendM) (r := rslot k) (S := (sendM.access (rslot k)).set) subset_rfl) $$ H
  iintro H
  iapply Hk
  iexists f; iexact H

/-- Reading a landed slot. -/
theorem read_step {r : Rect S7x96x1024} (hr : r = rslot k) {hl : commM.view.LoadsAt r.toLoadRect}
    {w : r.toLoadRect.shape.Idx → Elt F .bf16} (hw : HEq w (S (nx (back k) c) k))
    {α : Type} {Q : α → sProp 𝕄} {kont : (r.toLoadRect.shape.Idx → Elt F .bf16) → Prog (TpuEff nD τ sig (Elt F) Λ₀ .tc) α} :
    recvPay S c k
      ⊢ iprop(((∃ f, commPts (F := F) c k f) -∗ wp frame (wpE (defs₀ (F := F)) 𝒱₀ (c : Thread nD τ) none) Set.univ (kont w) Q)
          -∗ wp frame (wpE (defs₀ (F := F)) 𝒱₀ (c : Thread nD τ) none) Set.univ (.op (.load commM r.toLoadRect hl) kont) Q) := by
  subst hr
  cases hw
  unfold recvPay commPts
  iintro ⟨%f, %hf, H⟩ Hk
  iapply (wp_load_rect 𝒱₀ (c : Thread nD τ) none Set.univ (m := commM) (r := rslot k) (S := (commM.access (rslot k)).set) subset_rfl) $$ H
  rw [hf]
  iintro H
  iapply Hk
  iexists f; iexact H

/-- Waiting for a landed slot. -/
theorem landed_step {src dst : Memref sig .tc .vmem S96x1024 .bf16} (hd : dst = slot commM k) {sR : DmaSem sig} (hR : sR = recvS k)
    {hsrc : src.view.WordExact} {hdst : dst.view.WordExact}
    {α : Type} {Q : α → sProp 𝕄} {kont : PUnit → Prog (TpuEff nD τ sig (Elt F) Λ₀ .tc) α} :
    iprop(records S K ∗ owing c 0 ∗ cred (tallyAt (recvCell c k) () N) ∗ atPos ER (recvCell c k) 0 ∅ 0)
      ⊢ iprop(((owing c 0 ∗ semVal (recvCell c k) 0 ∗ recvPay S c k)
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 sR src dst hsrc hdst) kont) Q) := by
  subst hd hR
  unfold owing
  iintro ⟨#HR, ⟨%W, HO⟩, Hc, Hat⟩ Hk
  iapply (Rounds.wp_wait_rest_token 𝒱₀ ER (Rd S) (c : Thread nD τ) none (κ := K (c, some (true, k)))
      (wpE_waitDma2_eq 𝒱₀ (c : Thread nD τ) none Set.univ) (Set.mem_univ _) () (O := 0) (W := W) (R := 0) (m := 0) (T := ∅)
      (by rw [Nat.zero_add, expect_recv])) $$ [Hc HO Hat]
  · isplitr; · iapply (inv_at S K (c, some (true, k))); iexact HR
    isplitl [Hc]; · iexact Hc
    isplitl [HO]; · iexact HO
    isplitr; · rw [MayWait_zero]; iempintro
    iexact Hat
  iintro ⟨HO, Hat, -, Hpay⟩
  ihave Hp := (Entails.of_eq (rest_recv S c k)) $$ Hpay
  imod (Rounds.cell_close ER (Rd S) (Set.mem_univ (K (c, some (true, k)))) (fun h => h) (R := 0 + 1) (duties_later S (recvCell c k))) $$ [Hat] with Hz
  · isplitr; · iapply (inv_at S K (c, some (true, k))); iexact HR
    iexact Hat
  iapply Hk
  isplitl [HO]; · iexists _; iexact HO
  isplitl [Hz] <;> iassumption

/-- Waiting until a slot is sent. -/
theorem sent_step {src dst : Memref sig .tc .vmem S96x1024 .bf16} (hd : dst = slot sendM k) {sS : DmaSem sig} (hS : sS = sendS k)
    {hsrc : src.view.WordExact} {hdst : dst.view.WordExact}
    {α : Type} {Q : α → sProp 𝕄} {kont : PUnit → Prog (TpuEff nD τ sig (Elt F) Λ₀ .tc) α} :
    iprop(records S K ∗ owing c 0 ∗ cred (tallyAt (sendCell c k) () N) ∗ atPos ER (sendCell c k) 0 ∅ 0)
      ⊢ iprop(((owing c 0 ∗ semVal (sendCell c k) 0 ∗ ∃ f, sendPts (F := F) c k f)
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 sS src dst hsrc hdst) kont) Q) := by
  subst hd hS
  unfold owing
  iintro ⟨#HR, ⟨%W, HO⟩, Hc, Hat⟩ Hk
  iapply (Rounds.wp_wait_rest_token 𝒱₀ ER (Rd S) (c : Thread nD τ) none (κ := K (c, some (false, k)))
      (wpE_waitDma2_eq 𝒱₀ (c : Thread nD τ) none Set.univ) (Set.mem_univ _) () (O := 0) (W := W) (R := 0) (m := 0) (T := ∅)
      (by rw [Nat.zero_add, expect_send])) $$ [Hc HO Hat]
  · isplitr; · iapply (inv_at S K (c, some (false, k))); iexact HR
    isplitl [Hc]; · iexact Hc
    isplitl [HO]; · iexact HO
    isplitr; · rw [MayWait_zero]; iempintro
    iexact Hat
  iintro ⟨HO, Hat, -, Hpay⟩
  ihave Hp := (Entails.of_eq ((rest_send S c k).trans (by unfold sendPay; rfl))) $$ Hpay
  imod (Rounds.cell_close ER (Rd S) (Set.mem_univ (K (c, some (false, k)))) (fun h => h) (R := 0 + 1) (duties_later S (sendCell c k))) $$ [Hat] with Hz
  · isplitr; · iapply (inv_at S K (c, some (false, k))); iexact HR
    iexact Hat
  iapply Hk
  isplitl [HO]; · iexists _; iexact HO
  isplitl [Hz] <;> iassumption

end

end Cert.KernelIdeal.Moe

end
-- ==== Proof.Values.lean ====
/-
# What each device computes

A device takes the 256 rows of tokens of one device's chunk and picks out the rows routed to the four
experts of one owner. `packed` are the picked rows, each weighted and already multiplied with its expert's
matrix, stacked into 96 places in the order the rows come in. `spread` puts 96 such rows back to the 256 rows
of the chunk. These are the kernel's own expressions: the chunks a device packs for the seven others and for
itself are the same expression at other loads, though the program writes each of them out.

`sent` is what a device packs at each step, `outAt` its result block.
-/
module

public import proofs.«01_k».proof.Proof.Protocol

@[expose] public section

noncomputable section

namespace Cert.KernelIdeal.Moe

open Cert.KernelIdeal Cert.KernelIdeal.Gen

open Idealize.ShloMosaic
open Idealize.ShloMosaic.TcCoe
open Idealize.SL Idealize.SL.Sem

variable {F : FTy → Type} [FloatOps F]

/-! ## The mesh position, as the kernel computes it -/

/-- A device's own number. -/
def me (c : Dev nD) : BitVec 32 := Scalar.remsi (Scalar.divsi (Dev.word c) 1#32) 8#32

/-- The number of the device `j + 1` before `w` around the mesh. -/
def sourceOf (w j : BitVec 32) : BitVec 32 :=
  let n := Scalar.select (Scalar.cmpi .eq 8#32 0#32) 1#32 8#32
  let q := Scalar.remsi (Scalar.subi (Scalar.subi w j) 1#32) n
  Scalar.select
    (Scalar.andi (Scalar.xori (Scalar.cmpi .slt q 0#32) (Scalar.cmpi .slt n 0#32)) (Scalar.cmpi .ne q 0#32))
    (Scalar.addi q n) q

/-! ## Picking rows -/

/-- Ones below the diagonal. -/
def below : FVec F S256x256 .f32 :=
  select (cmpi .slt (iota .tc S256x256 32 [1] iota_S256x256_d1_w32) (iota .tc S256x256 32 [0] iota_S256x256_d0_w32))
    (broadcast S256x256 (Scalar.ofBits .f32 0x3F800000#32 : F .f32)) (broadcast S256x256 (Scalar.ofBits .f32 0x00000000#32 : F .f32))

/-- The expert numbers of a chunk's rows. -/
def expertOf (r : Vec F S256x1 .i32) : IVec S256x1 32 := shapeCast S256x1 r shapeCasts_S256x1_S256x1

/-- Whether a row is routed to one of the experts of owner `w`. -/
def owned (w : BitVec 32) (r : Vec F S256x1 .i32) : IVec S256x1 1 :=
  andi (cmpi .sge (expertOf (F := F) r) (broadcast S256x1 (Scalar.muli w 4#32)))
    (cmpi .slt (expertOf (F := F) r) (broadcast S256x1 (Scalar.addi (Scalar.muli w 4#32) 4#32)))

/-- How many rows before it are: its place. -/
def place (w : BitVec 32) (r : Vec F S256x1 .i32) : IVec S256x1 32 :=
  fptosi 32 (matmul dot_S256x256_S256x1_S256x1_1_0_0_1_n_n none (below (F := F))
    (sitofp .f32 (extui 32 (owned (F := F) w r) natLt_1_32)) (constant S256x1 .f32 0x00000000#32))

/-- One at place `q` of an owned row. -/
def pick (w : BitVec 32) (r : Vec F S256x1 .i32) : FVec F S96x256 .bf16 :=
  truncf .bf16 (select
    (andi (cmpi .eq (iota .tc S96x256 32 [0] iota_S96x256_d0_w32)
        (broadcastTo S96x256 (shapeCast S1x256 (place (F := F) w r) shapeCasts_S256x1_S1x256) broadcasts_S1x256_S96x256))
      (broadcastTo S96x256 (shapeCast S1x256 (owned (F := F) w r) shapeCasts_S256x1_S1x256) broadcasts_S1x256_S96x256))
    (broadcast S96x256 (Scalar.ofBits .f32 0x3F800000#32 : F .f32)) (broadcast S96x256 (Scalar.ofBits .f32 0x00000000#32 : F .f32)))
    bitsLt_bf16_f32

/-- The same, transposed. -/
def unpick (w : BitVec 32) (r : Vec F S256x1 .i32) : FVec F S256x96 .bf16 :=
  truncf .bf16 (select
    (andi (cmpi .eq (iota .tc S256x96 32 [1] iota_S256x96_d1_w32)
        (broadcastTo S256x96 (place (F := F) w r) broadcasts_S256x1_S256x96))
      (broadcastTo S256x96 (owned (F := F) w r) broadcasts_S256x1_S256x96))
    (broadcast S256x96 (Scalar.ofBits .f32 0x3F800000#32 : F .f32)) (broadcast S256x96 (Scalar.ofBits .f32 0x00000000#32 : F .f32)))
    bitsLt_bf16_f32

/-! ## Weights -/

def rowsOf (x : Vec F S256x512 .f32) : FVec F S256x512 .f32 := shapeCast S256x512 x shapeCasts_S256x512_S256x512

/-- The router's scores of a chunk's rows. -/
def scores (x : Vec F S256x512 .f32) (rW : Vec F S512x32 .f32) : FVec F S256x32 .f32 :=
  matmul dot_S256x512_S512x32_S256x32_1_0_0_1_n_n none (rowsOf x)
    (shapeCast S512x32 rW shapeCasts_S512x32_S512x32) (constant S256x32 .f32 0x00000000#32)

/-- Their exponentials, the row's largest score taken off first. -/
def expScores (x : Vec F S256x512 .f32) (rW : Vec F S512x32 .f32) : FVec F S256x32 .f32 :=
  exp (subf (scores x rW) (broadcastTo S256x32 (shapeCast S256x1
    (multiReduction .maximumf [1] S256 (scores x rW) 0xFF800000#32 reduces_S256x32_S256 (.inl rfl) rfl)
    shapeCasts_S256_S256x1) broadcasts_S256x1_S256x32))

/-- Their softmax. -/
def probs (x : Vec F S256x512 .f32) (rW : Vec F S512x32 .f32) : FVec F S256x32 .f32 :=
  divf (expScores x rW) (broadcastTo S256x32 (shapeCast S256x1
    (multiReduction .add [1] S256 (expScores x rW) 0x00000000#32 reduces_S256x32_S256 (.inl rfl) rfl)
    shapeCasts_S256_S256x1) broadcasts_S256x1_S256x32)

/-- The softmax at a row's own expert. -/
def weight (x : Vec F S256x512 .f32) (rW : Vec F S512x32 .f32) (r : Vec F S256x1 .i32) : FVec F S256x1 .f32 :=
  shapeCast S256x1 (multiReduction .add [1] S256
    (select (cmpi .eq (iota .tc S256x32 32 [1] iota_S256x32_d1_w32) (broadcastTo S256x32 (expertOf (F := F) r) broadcasts_S256x1_S256x32))
      (probs x rW) (broadcast S256x32 (Scalar.ofBits .f32 0x00000000#32 : F .f32)))
    0x00000000#32 reduces_S256x32_S256 (.inl rfl) rfl) shapeCasts_S256_S256x1

/-- The rows, weighted; those of other owners zero. -/
def weighted (w : BitVec 32) (x : Vec F S256x512 .f32) (rW : Vec F S512x32 .f32) (r : Vec F S256x1 .i32) : FVec F S256x512 .bf16 :=
  truncf .bf16 (mulf (rowsOf x) (broadcastTo S256x512
    (select (owned (F := F) w r) (weight x rW r) (broadcast S256x1 (Scalar.ofBits .f32 0x00000000#32 : F .f32)))
    broadcasts_S256x1_S256x512)) bitsLt_bf16_f32

/-! ## Packing -/

/-- The weighted rows at their places. -/
def placedRows (w : BitVec 32) (x : Vec F S256x512 .f32) (rW : Vec F S512x32 .f32) (r : Vec F S256x1 .i32) : FVec F S96x512 .bf16 :=
  truncf .bf16 (matmul dot_S96x256_S256x512_S96x512_1_0_0_1_n_n none (pick w r) (weighted w x rW r)
    (constant S96x512 .f32 0x00000000#32)) bitsLt_bf16_f32

/-- Their expert numbers. -/
def placedExperts (w : BitVec 32) (r : Vec F S256x1 .i32) : FVec F S96x1 .f32 :=
  matmul dot_S96x256_S256x1_S96x1_1_0_0_1_n_n none (pick (F := F) w r) (sitofp .bf16 (expertOf (F := F) r))
    (constant S96x1 .f32 0x00000000#32)

/-- The part of the placed rows routed to expert `n`, multiplied with that expert's matrix. -/
def expertPart (n : BitVec 32) (W : FVec F S512x1024 .bf16) (e : FVec F S96x1 .f32) (p : FVec F S96x512 .bf16) : FVec F S96x1024 .f32 :=
  matmul dot_S96x512_S512x1024_S96x1024_1_0_0_1_n_n none
    (mulf (broadcastTo S96x512 (truncf .bf16 (select (cmpf .oeq e (broadcast S96x1 (Scalar.sitofp .f32 n : F .f32)))
      (broadcast S96x1 (Scalar.ofBits .f32 0x3F800000#32 : F .f32)) (broadcast S96x1 (Scalar.ofBits .f32 0x00000000#32 : F .f32)))
      bitsLt_bf16_f32) broadcasts_S96x1_S96x512) p)
    W (constant S96x1024 .f32 0x00000000#32)

/-- The four experts' matrices. -/
def mats (ew : Vec F S4x512x1024 .f32) : FVec F S4x512x1024 .bf16 :=
  truncf .bf16 (shapeCast S4x512x1024 ew shapeCasts_S4x512x1024_S4x512x1024) bitsLt_bf16_f32

def mat0 (ew : Vec F S4x512x1024 .f32) : FVec F S512x1024 .bf16 :=
  shapeCast S512x1024 (extractStridedSlice S1x512x1024 ![0, 0, 0] (mats ew) slices_S4x512x1024_o0_0_0_S1x512x1024) shapeCasts_S1x512x1024_S512x1024
def mat1 (ew : Vec F S4x512x1024 .f32) : FVec F S512x1024 .bf16 :=
  shapeCast S512x1024 (extractStridedSlice S1x512x1024 ![1, 0, 0] (mats ew) slices_S4x512x1024_o1_0_0_S1x512x1024) shapeCasts_S1x512x1024_S512x1024
def mat2 (ew : Vec F S4x512x1024 .f32) : FVec F S512x1024 .bf16 :=
  shapeCast S512x1024 (extractStridedSlice S1x512x1024 ![2, 0, 0] (mats ew) slices_S4x512x1024_o2_0_0_S1x512x1024) shapeCasts_S1x512x1024_S512x1024
def mat3 (ew : Vec F S4x512x1024 .f32) : FVec F S512x1024 .bf16 :=
  shapeCast S512x1024 (extractStridedSlice S1x512x1024 ![3, 0, 0] (mats ew) slices_S4x512x1024_o3_0_0_S1x512x1024) shapeCasts_S1x512x1024_S512x1024

/-- What owner `w` packs of a chunk. -/
def packed (w : BitVec 32) (ew : Vec F S4x512x1024 .f32) (x : Vec F S256x512 .f32) (rW : Vec F S512x32 .f32) (r : Vec F S256x1 .i32) :
    FVec F S96x1024 .bf16 :=
  let lo := Scalar.muli w 4#32
  let e := placedExperts (F := F) w r
  let p := placedRows w x rW r
  truncf .bf16 (addf (addf (addf (addf (broadcast S96x1024 (Scalar.ofBits .f32 0x00000000#32 : F .f32))
    (expertPart (Scalar.addi lo 0#32) (mat0 ew) e p))
    (expertPart (Scalar.addi lo 1#32) (mat1 ew) e p))
    (expertPart (Scalar.addi lo 2#32) (mat2 ew) e p))
    (expertPart (Scalar.addi lo 3#32) (mat3 ew) e p)) bitsLt_bf16_f32

/-- The packed rows back at their places in the chunk, zero elsewhere. -/
def spread (w : BitVec 32) (r : Vec F S256x1 .i32) (p : FVec F S96x1024 .bf16) : FVec F S256x1024 .f32 :=
  matmul dot_S256x96_S96x1024_S256x1024_1_0_0_1_n_n none (unpick (F := F) w r) p (constant S256x1024 .f32 0x00000000#32)

/-- The shared matrix applied to a chunk. -/
def shared (x : Vec F S256x512 .f32) (sw : Vec F S512x1024 .f32) : FVec F S256x1024 .f32 :=
  matmul dot_S256x512_S512x1024_S256x1024_1_0_0_1_n_n none (rowsOf x)
    (shapeCast S512x1024 sw shapeCasts_S512x1024_S512x1024) (constant S256x1024 .f32 0x00000000#32)

/-! ## The loads -/

/-- The rows of a chunk, at the offsets the kernel computes. -/
def rowsAt (off : Fin 2 → Nat) (h : ∀ a, off a + S256x512.size a ≤ S2048x512.size a)
    (f : (cc0_stg0_0 : Ref sig .tc).ty.Contents (Elt F)) : Vec F S256x512 .f32 :=
  (Memref.whole cc0_stg0_0 : Memref sig .tc .vmem S2048x512 .f32).view.readAt (Elt F)
    (Rect.unit (s := S2048x512) off S256x512.size h).toLoadRect f
/-- Their expert numbers. -/
def idsAt (off : Fin 2 → Nat) (h : ∀ a, off a + S256x1.size a ≤ S2048x1.size a)
    (f : (cc0_stg2_0 : Ref sig .tc).ty.Contents (Elt F)) : Vec F S256x1 .i32 :=
  (Memref.whole cc0_stg2_0 : Memref sig .tc .vmem S2048x1 .i32).view.readAt (Elt F)
    (Rect.unit (s := S2048x1) off S256x1.size h).toLoadRect f
def routerOf (f : (cc0_stg1_0 : Ref sig .tc).ty.Contents (Elt F)) : Vec F S512x32 .f32 :=
  (Memref.whole cc0_stg1_0 : Memref sig .tc .vmem S512x32 .f32).view.readAt (Elt F)
    (Rect.unit (s := S512x32) ![0, 0] S512x32.size inb_S512x32_S512x32_0_0).toLoadRect f
def expertsOf (f : (cc0_stg3_0 : Ref sig .tc).ty.Contents (Elt F)) : Vec F S4x512x1024 .f32 :=
  (Memref.whole cc0_stg3_0 : Memref sig .tc .vmem S4x512x1024 .f32).view.readAt (Elt F)
    (Rect.unit (s := S4x512x1024) ![0, 0, 0] S4x512x1024.size inb_S4x512x1024_S4x512x1024_0_0_0).toLoadRect f
def sharedOf (f : (cc0_stg4_0 : Ref sig .tc).ty.Contents (Elt F)) : Vec F S512x1024 .f32 :=
  (Memref.whole cc0_stg4_0 : Memref sig .tc .vmem S512x1024 .f32).view.readAt (Elt F)
    (Rect.unit (s := S512x1024) ![0, 0] S512x1024.size inb_S512x1024_S512x1024_0_0).toLoadRect f

/-! ## What is sent, and the result -/

variable (m : (ℓ : Loc nD τ sig) → Buf (Elt F) ℓ)

/-- The staged inputs of device `c`. -/
def in0 (c : Dev nD) : (cc0_stg0_0 : Ref sig .tc).ty.Contents (Elt F) := (win0_0.blk t0_0).view.read (Elt F) (m ((c : Thread nD τ).loc main_arg0))
def in1 (c : Dev nD) : (cc0_stg1_0 : Ref sig .tc).ty.Contents (Elt F) := (win0_1.blk t0_0).view.read (Elt F) (m ((c : Thread nD τ).loc main_arg1))
def in2 (c : Dev nD) : (cc0_stg2_0 : Ref sig .tc).ty.Contents (Elt F) := (win0_2.blk t0_0).view.read (Elt F) (m ((c : Thread nD τ).loc main_arg2))
def in3 (c : Dev nD) : (cc0_stg3_0 : Ref sig .tc).ty.Contents (Elt F) := (win0_3.blk t0_0).view.read (Elt F) (m ((c : Thread nD τ).loc main_arg3))
def in4 (c : Dev nD) : (cc0_stg4_0 : Ref sig .tc).ty.Contents (Elt F) := (win0_4.blk t0_0).view.read (Elt F) (m ((c : Thread nD τ).loc main_arg4))

/-- What device `c` packs at step `k`: of the chunk of the device it sends to. -/
def sentRows (c : Dev nD) (k : Fin 7) : FVec F S96x1024 .bf16 :=
  packed (me c) (expertsOf (in3 m c)) (rowsAt (k0_off1 c (BitVec.ofNat 32 (1 + k.val))) (k0_off1_inb c k) (in0 m c))
    (routerOf (in1 m c)) (idsAt (k0_off2 c (BitVec.ofNat 32 (1 + k.val))) (k0_off2_inb c k) (in2 m c))

def sent : Packed F := fun c k => shapeCast S1x96x1024 (sentRows m c k) shapeCasts_S96x1024_S1x96x1024

/-- A landed slot, as rows. -/
def landedRows (v : Vec F S1x96x1024 .bf16) : FVec F S96x1024 .bf16 := shapeCast S96x1024 v shapeCasts_S1x96x1024_S96x1024

/-- Device `c`'s own chunk. -/
def myRows (c : Dev nD) : Vec F S256x512 .f32 := rowsAt (k0_off3 c) (k0_off3_inb c) (in0 m c)
def myIds (c : Dev nD) : Vec F S256x1 .i32 := idsAt (k0_off4 c) (k0_off4_inb c) (in2 m c)

/-- What the landed slot of step `j` adds. -/
def arrival (c : Dev nD) (j : Fin 7) : FVec F S256x1024 .f32 :=
  spread (sourceOf (me c) (BitVec.ofNat 32 j.val)) (myIds m c) (landedRows (sent m (nx (back j) c) j))

/-- The result: the rows of its own experts, the shared product, then the seven arrivals. -/
def outRows (c : Dev nD) : FVec F S256x1024 .f32 :=
  addf (addf (addf (addf (addf (addf (addf
    (addf (spread (me c) (myIds m c) (packed (me c) (expertsOf (in3 m c)) (myRows m c) (routerOf (in1 m c)) (myIds m c)))
      (shared (myRows m c) (sharedOf (in4 m c))))
    (arrival m c 0)) (arrival m c 1)) (arrival m c 2)) (arrival m c 3)) (arrival m c 4)) (arrival m c 5)) (arrival m c 6)

def outAt (c : Dev nD) : (cc0_stg5_0 : Ref sig .tc).ty.Contents (Elt F) := outRows m c

end Cert.KernelIdeal.Moe

end
-- ==== Proof.Body.lean ====
/-
# The body

One device's run of the kernel, from its staged inputs, its slots and its part of the exchange's ghost state,
to its result block: the program's parts in order, each operation by its step.
-/
module

public import proofs.«01_k».proof.Proof.Steps
public import proofs.«01_k».proof.Proof.Values

@[expose] public section

set_option maxRecDepth 8000

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-! ## The peers, as the kernel computes them -/

theorem signal_peers (c : Dev nD) :
    (⟨k0_dev1 c, k0_dev1_lt c⟩ : Dev nD) = nx 0 c ∧ (⟨k0_dev2 c, k0_dev2_lt c⟩ : Dev nD) = nx 1 c
      ∧ (⟨k0_dev3 c, k0_dev3_lt c⟩ : Dev nD) = nx 2 c ∧ (⟨k0_dev4 c, k0_dev4_lt c⟩ : Dev nD) = nx 3 c
      ∧ (⟨k0_dev5 c, k0_dev5_lt c⟩ : Dev nD) = nx 4 c ∧ (⟨k0_dev6 c, k0_dev6_lt c⟩ : Dev nD) = nx 5 c
      ∧ (⟨k0_dev7 c, k0_dev7_lt c⟩ : Dev nD) = nx 6 c := by
  revert c; decide +kernel
theorem send_peers (c : Dev nD) :
    (⟨k0_dev8 c, k0_dev8_lt c⟩ : Dev nD) = nx 0 c ∧ (⟨k0_dev9 c, k0_dev9_lt c⟩ : Dev nD) = nx 1 c
      ∧ (⟨k0_dev10 c, k0_dev10_lt c⟩ : Dev nD) = nx 2 c ∧ (⟨k0_dev11 c, k0_dev11_lt c⟩ : Dev nD) = nx 3 c
      ∧ (⟨k0_dev12 c, k0_dev12_lt c⟩ : Dev nD) = nx 4 c ∧ (⟨k0_dev13 c, k0_dev13_lt c⟩ : Dev nD) = nx 5 c
      ∧ (⟨k0_dev14 c, k0_dev14_lt c⟩ : Dev nD) = nx 6 c := by
  revert c; decide +kernel

/-! ## What the body starts from and ends with -/

/-- For each signal: its duty, and the slot of the landing buffer it hands over. -/
def sigRes (c : Dev nD) (k : Fin 7) : sProp 𝕄 :=
  iprop(dutyTok ER (barCell (nx k c)) 0 k ∗ ∃ f, commPts (F := F) c (back k) f)
/-- For each transfer: its two duties. -/
def sndToks (c : Dev nD) (k : Fin 7) : sProp 𝕄 :=
  iprop(dutyTok ER (sendCell c k) 0 0 ∗ dutyTok ER (recvCell (nx k c) k) 0 0)
/-- For each arrival: its credit and position. -/
def rcvRes (c : Dev nD) (k : Fin 7) : sProp 𝕄 :=
  iprop(cred (tallyAt (recvCell c k) () N) ∗ atPos ER (recvCell c k) 0 ∅ 0)

/-- A device's share of the exchange's ghost state. -/
def ghost (K : Dev nD × CK → ℕ) (c : Dev nD) : sProp 𝕄 :=
  iprop(records (sent m) K ∗ atPos ER (barCell c) 0 ∅ 0
    ∗ (bigSep Finset.univ fun k : Fin 7 => dutyTok ER (barCell (nx k c)) 0 k)
    ∗ (bigSep Finset.univ fun k : Fin 7 => sndToks (F := F) c k)
    ∗ (bigSep Finset.univ fun k : Fin 7 => atPos ER (recvCell c k) 0 ∅ 0)
    ∗ (bigSep Finset.univ fun k : Fin 7 => atPos ER (sendCell c k) 0 ∅ 0))

/-- A staging buffer held at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The body's start, slot by slot. -/
def bodyPre (K : Dev nD × CK → ℕ) (c : Dev nD) : sProp 𝕄 :=
  iprop(records (sent m) K ∗ levAts L lv ∗ owing c (Obar 0 c) ∗ cred (tallyAt (barCell c) () 7) ∗ atPos ER (barCell c) 0 ∅ 0
    ∗ (bigSep Finset.univ fun k : Fin 7 => sigRes (F := F) c k)
    ∗ (bigSep Finset.univ fun k : Fin 7 => sndToks (F := F) c k)
    ∗ (bigSep Finset.univ fun k : Fin 7 => iprop(∃ f, sendPts (F := F) c k f))
    ∗ (bigSep Finset.univ fun k : Fin 7 => rcvRes (F := F) c k)
    ∗ (bigSep Finset.univ fun k : Fin 7 => atPos ER (sendCell c k) 0 ∅ 0)
    ∗ (((c : Thread nD τ).loc cc0_stg0_0) ↦{fullShare} in0 m c) ∗ (((c : Thread nD τ).loc cc0_stg1_0) ↦{fullShare} in1 m c)
    ∗ (((c : Thread nD τ).loc cc0_stg2_0) ↦{fullShare} in2 m c) ∗ (((c : Thread nD τ).loc cc0_stg3_0) ↦{fullShare} in3 m c)
    ∗ (((c : Thread nD τ).loc cc0_stg4_0) ↦{fullShare} in4 m c)
    ∗ ∃ f : Buf (Elt F) ((c : Thread nD τ).loc cc0_stg5_0), ((c : Thread nD τ).loc cc0_stg5_0) ↦{fullShare} f)

/-- Its end: nothing owed, every semaphore at zero, the slots back, the result in place. -/
def bodyPost (c : Dev nD) : sProp 𝕄 :=
  iprop(owing (F := F) c 0 ∗ semVal (barCell c) 0
    ∗ (bigSep Finset.univ fun k : Fin 7 => semVal (sendCell c k) 0)
    ∗ (bigSep Finset.univ fun k : Fin 7 => semVal (recvCell c k) 0)
    ∗ (bigSep Finset.univ fun k : Fin 7 => iprop(∃ f, sendPts (F := F) c k f))
    ∗ (bigSep Finset.univ fun k : Fin 7 => iprop(∃ f, commPts (F := F) c k f))
    ∗ (((c : Thread nD τ).loc cc0_stg0_0) ↦{fullShare} in0 m c) ∗ (((c : Thread nD τ).loc cc0_stg1_0) ↦{fullShare} in1 m c)
    ∗ (((c : Thread nD τ).loc cc0_stg2_0) ↦{fullShare} in2 m c) ∗ (((c : Thread nD τ).loc cc0_stg3_0) ↦{fullShare} in3 m c)
    ∗ (((c : Thread nD τ).loc cc0_stg4_0) ↦{fullShare} in4 m c)
    ∗ (((c : Thread nD τ).loc cc0_stg5_0) ↦{fullShare} outAt m c))

set_option maxHeartbeats 4000000 in
theorem sound_body (K : Dev nD × CK → ℕ) (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) (Memref.whole cc0_scratch1) (Memref.isWhole_whole _)
            cc0_scratch2 cc0_scratch3) Kt := by
  unfold bodyPre
  simp only [bigSep_fin7]
  iintro ⟨⟨#HR, #Hlev, HO, HcB, HaB, ⟨Hg0, Hg1, Hg2, Hg3, Hg4, Hg5, Hg6⟩, ⟨Ht0, Ht1, Ht2, Ht3, Ht4, Ht5, Ht6⟩,
    ⟨Hs0, Hs1, Hs2, Hs3, Hs4, Hs5, Hs6⟩, ⟨Hr0, Hr1, Hr2, Hr3, Hr4, Hr5, Hr6⟩, ⟨Ha0, Ha1, Ha2, Ha3, Ha4, Ha5, Ha6⟩,
    HX, HW, HI, HE, HD, ⟨%fo, Hout⟩⟩, Hk⟩
  obtain ⟨hp0, hp1, hp2, hp3, hp4, hp5, hp6⟩ := signal_peers c
  obtain ⟨hq0, hq1, hq2, hq3, hq4, hq5, hq6⟩ := send_peers c
  unfold sigRes sndToks rcvRes
  simp only [cc0_body_eq_skeleton]; unfold cc0_body_skel
  simp only [k0_part42_eq_skeleton]; unfold k0_part42_skel
  simp only [k0_part1_eq_skeleton]; unfold k0_part1_skel
  simp only [semSignalWord, semWaitWord, Prog.lift, Prog.bind_op, Prog.bind_ret, Prog.pure_eq_ret, wp_deviceId]
  -- the barrier
  iapply (wp_load 𝒱₀ (c : Thread nD τ) none Set.univ (m := Memref.whole cc0_stg3_0) (Finset.subset_univ _)) $$ HE; iintro HE
  icases Hg0 with ⟨Htk, Hf⟩
  iapply (signal_step (sent m) K c 0 hp0 rfl rfl rfl) $$ [HO Htk Hf]
  · isplitr; · iexact HR
    isplitl [HO]; · iexact HO
    isplitl [Htk] <;> iassumption
  iintro HO
  simp only [k0_part2_eq_skeleton]; unfold k0_part2_skel
  simp only [semSignalWord, semWaitWord, Prog.lift, Prog.bind_op, Prog.bind_ret, Prog.pure_eq_ret]
  icases Hg1 with ⟨Htk, Hf⟩
  iapply (signal_step (sent m) K c 1 hp1 rfl rfl rfl) $$ [HO Htk Hf]
  · isplitr; · iexact HR
    isplitl [HO]; · iexact HO
    isplitl [Htk] <;> iassumption
  iintro HO
  icases Hg2 with ⟨Htk, Hf⟩
  iapply (signal_step (sent m) K c 2 hp2 rfl rfl rfl) $$ [HO Htk Hf]
  · isplitr; · iexact HR
    isplitl [HO]; · iexact HO
    isplitl [Htk] <;> iassumption
  iintro HO
  icases Hg3 with ⟨Htk, Hf⟩
  iapply (signal_step (sent m) K c 3 hp3 rfl rfl rfl) $$ [HO Htk Hf]
  · isplitr; · iexact HR
    isplitl [HO]; · iexact HO
    isplitl [Htk] <;> iassumption
  iintro HO
  simp only [k0_part3_eq_skeleton]; unfold k0_part3_skel
  simp only [semSignalWord, semWaitWord, Prog.lift, Prog.bind_op, Prog.bind_ret, Prog.pure_eq_ret]
  icases Hg4 with ⟨Htk, Hf⟩
  iapply (signal_step (sent m) K c 4 hp4 rfl rfl rfl) $$ [HO Htk Hf]
  · isplitr; · iexact HR
    isplitl [HO]; · iexact HO
    isplitl [Htk] <;> iassumption
  iintro HO
  icases Hg5 with ⟨Htk, Hf⟩
  iapply (signal_step (sent m) K c 5 hp5 rfl rfl rfl) $$ [HO Htk Hf]
  · isplitr; · iexact HR
    isplitl [HO]; · iexact HO
    isplitl [Htk] <;> iassumption
  iintro HO
  simp only [k0_part4_eq_skeleton]; unfold k0_part4_skel
  simp only [semSignalWord, semWaitWord, Prog.lift, Prog.bind_op, Prog.bind_ret, Prog.pure_eq_ret]
  icases Hg6 with ⟨Htk, Hf⟩
  iapply (signal_step (sent m) K c 6 hp6 rfl rfl rfl) $$ [HO Htk Hf]
  · isplitr; · iexact HR
    isplitl [HO]; · iexact HO
    isplitl [Htk] <;> iassumption
  iintro HO
  iapply (barrier_step (sent m) K c rfl (Obar_end c)) $$ [HO HcB HaB]
  · isplitr; · iexact HR
    isplitr; · iexact Hlev
    isplitl [HO]; · iexact HO
    isplitl [HcB] <;> iassumption
  simp only [bigSep_fin7]
  iintro ⟨HO, HzB, Hn0, Hn1, Hn2, Hn3, Hn4, Hn5, Hn6⟩
  -- the seven chunks
  iapply (wp_load 𝒱₀ (c : Thread nD τ) none Set.univ (m := Memref.whole cc0_stg0_0) (Finset.subset_univ _)) $$ HX; iintro HX
  iapply (wp_load 𝒱₀ (c : Thread nD τ) none Set.univ (m := Memref.whole cc0_stg1_0) (Finset.subset_univ _)) $$ HW; iintro HW
  iapply (wp_load 𝒱₀ (c : Thread nD τ) none Set.univ (m := Memref.whole cc0_stg2_0) (Finset.subset_univ _)) $$ HI; iintro HI
  simp only [k0_part5_eq_skeleton]; unfold k0_part5_skel
  simp only [semSignalWord, semWaitWord, Prog.lift, Prog.bind_op, Prog.bind_ret, Prog.pure_eq_ret]
  iapply (wp_load 𝒱₀ (c : Thread nD τ) none Set.univ (m := Memref.whole cc0_stg2_0) (Finset.subset_univ _)) $$ HI; iintro HI
  simp only [k0_part6_eq_skeleton]; unfold k0_part6_skel
  simp only [semSignalWord, semWaitWord, Prog.lift, Prog.bind_op, Prog.bind_ret, Prog.pure_eq_ret]
  simp only [k0_part7_eq_skeleton]; unfold k0_part7_skel
  simp only [semSignalWord, semWaitWord, Prog.lift, Prog.bind_op, Prog.bind_ret, Prog.pure_eq_ret]
  iapply (stale_step c 0 rfl) $$ Hs0; iintro %_ Hs0
  iapply (fill_step c 0 rfl) $$ Hs0; iintro Hs0
  icases Ht0 with ⟨Htk, Htk'⟩
  iapply (send_step (sent m) K c 0 hq0 rfl rfl rfl rfl rfl (HEq.refl (sent m c 0)) (Obar_end c) rfl) $$ [Hs0 Hn0 HO Htk Htk']
  · isplitr; · iexact HR
    isplitl [Hs0]; · iexact Hs0
    isplitl [Hn0]; · iexact Hn0
    isplitl [HO]; · iexact HO
    isplitl [Htk] <;> iassumption
  iintro ⟨Hc0, HO⟩
  simp only [k0_part8_eq_skeleton]; unfold k0_part8_skel
  simp only [semSignalWord, semWaitWord, Prog.lift, Prog.bind_op, Prog.bind_ret, Prog.pure_eq_ret]
  iapply (wp_load 𝒱₀ (c : Thread nD τ) none Set.univ (m := Memref.whole cc0_stg0_0) (Finset.subset_univ _)) $$ HX; iintro HX
  iapply (wp_load 𝒱₀ (c : Thread nD τ) none Set.univ (m := Memref.whole cc0_stg1_0) (Finset.subset_univ _)) $$ HW; iintro HW
  iapply (wp_load 𝒱₀ (c : Thread nD τ) none Set.univ (m := Memref.whole cc0_stg2_0) (Finset.subset_univ _)) $$ HI; iintro HI
  iapply (wp_load 𝒱₀ (c : Thread nD τ) none Set.univ (m := Memref.whole cc0_stg2_0) (Finset.subset_univ _)) $$ HI; iintro HI
  simp only [k0_part9_eq_skeleton]; unfold k0_part9_skel
  simp only [semSignalWord, semWaitWord, Prog.lift, Prog.bind_op, Prog.bind_ret, Prog.pure_eq_ret]
  simp only [k0_part10_eq_skeleton]; unfold k0_part10_skel
  simp only [semSignalWord, semWaitWord, Prog.lift, Prog.bind_op, Prog.bind_ret, Prog.pure_eq_ret]
  iapply (stale_step c 1 rfl) $$ Hs1; iintro %_ Hs1
  iapply (fill_step c 1 rfl) $$ Hs1; iintro Hs1
  simp only [k0_part11_eq_skeleton]; unfold k0_part11_skel
  simp only [semSignalWord, semWaitWord, Prog.lift, Prog.bind_op, Prog.bind_ret, Prog.pure_eq_ret]
  icases Ht1 with ⟨Htk, Htk'⟩
  iapply (send_step (sent m) K c 1 hq1 rfl rfl rfl rfl rfl (HEq.refl (sent m c 1)) rfl rfl) $$ [Hs1 Hn1 HO Htk Htk']
  · isplitr; · iexact HR
    isplitl [Hs1]; · iexact Hs1
    isplitl [Hn1]; · iexact Hn1
    isplitl [HO]; · iexact HO
    isplitl [Htk] <;> iassumption
  iintro ⟨Hc1, HO⟩
  iapply (wp_load 𝒱₀ (c : Thread nD τ) none Set.univ (m := Memref.whole cc0_stg0_0) (Finset.subset_univ _)) $$ HX; iintro HX
  iapply (wp_load 𝒱₀ (c : Thread nD τ) none Set.univ (m := Memref.whole cc0_stg1_0) (Finset.subset_univ _)) $$ HW; iintro HW
  iapply (wp_load 𝒱₀ (c : Thread nD τ) none Set.univ (m := Memref.whole cc0_stg2_0) (Finset.subset_univ _)) $$ HI; iintro HI
  simp only [k0_part12_eq_skeleton]; unfold k0_part12_skel
  simp only [semSignalWord, semWaitWord, Prog.lift, Prog.bind_op, Prog.bind_ret, Prog.pure_eq_ret]
  iapply (wp_load 𝒱₀ (c : Thread nD τ) none Set.univ (m := Memref.whole cc0_stg2_0) (Finset.subset_univ _)) $$ HI; iintro HI
  simp only [k0_part13_eq_skeleton]; unfold k0_part13_skel
  simp only [semSignalWord, semWaitWord, Prog.lift, Prog.bind_op, Prog.bind_ret, Prog.pure_eq_ret]
  simp only [k0_part14_eq_skeleton]; unfold k0_part14_skel
  simp only [semSignalWord, semWaitWord, Prog.lift, Prog.bind_op, Prog.bind_ret, Prog.pure_eq_ret]
  iapply (stale_step c 2 rfl) $$ Hs2; iintro %_ Hs2
  iapply (fill_step c 2 rfl) $$ Hs2; iintro Hs2
  icases Ht2 with ⟨Htk, Htk'⟩
  iapply (send_step (sent m) K c 2 hq2 rfl rfl rfl rfl rfl (HEq.refl (sent m c 2)) rfl rfl) $$ [Hs2 Hn2 HO Htk Htk']
  · isplitr; · iexact HR
    isplitl [Hs2]; · iexact Hs2
    isplitl [Hn2]; · iexact Hn2
    isplitl [HO]; · iexact HO
    isplitl [Htk] <;> iassumption
  iintro ⟨Hc2, HO⟩
  iapply (wp_load 𝒱₀ (c : Thread nD τ) none Set.univ (m := Memref.whole cc0_stg0_0) (Finset.subset_univ _)) $$ HX; iintro HX
  iapply (wp_load 𝒱₀ (c : Thread nD τ) none Set.univ (m := Memref.whole cc0_stg1_0) (Finset.subset_univ _)) $$ HW; iintro HW
  simp only [k0_part15_eq_skeleton]; unfold k0_part15_skel
  simp only [semSignalWord, semWaitWord, Prog.lift, Prog.bind_op, Prog.bind_ret, Prog.pure_eq_ret]
  iapply (wp_load 𝒱₀ (c : Thread nD τ) none Set.univ (m := Memref.whole cc0_stg2_0) (Finset.subset_univ _)) $$ HI; iintro HI
  iapply (wp_load 𝒱₀ (c : Thread nD τ) none Set.univ (m := Memref.whole cc0_stg2_0) (Finset.subset_univ _)) $$ HI; iintro HI
  simp only [k0_part16_eq_skeleton]; unfold k0_part16_skel
  simp only [semSignalWord, semWaitWord, Prog.lift, Prog.bind_op, Prog.bind_ret, Prog.pure_eq_ret]
  simp only [k0_part17_eq_skeleton]; unfold k0_part17_skel
  simp only [semSignalWord, semWaitWord, Prog.lift, Prog.bind_op, Prog.bind_ret, Prog.pure_eq_ret]
  iapply (stale_step c 3 rfl) $$ Hs3; iintro %_ Hs3
  iapply (fill_step c 3 rfl) $$ Hs3; iintro Hs3
  icases Ht3 with ⟨Htk, Htk'⟩
  iapply (send_step (sent m) K c 3 hq3 rfl rfl rfl rfl rfl (HEq.refl (sent m c 3)) rfl rfl) $$ [Hs3 Hn3 HO Htk Htk']
  · isplitr; · iexact HR
    isplitl [Hs3]; · iexact Hs3
    isplitl [Hn3]; · iexact Hn3
    isplitl [HO]; · iexact HO
    isplitl [Htk] <;> iassumption
  iintro ⟨Hc3, HO⟩
  simp only [k0_part18_eq_skeleton]; unfold k0_part18_skel
  simp only [semSignalWord, semWaitWord, Prog.lift, Prog.bind_op, Prog.bind_ret, Prog.pure_eq_ret]
  iapply (wp_load 𝒱₀ (c : Thread nD τ) none Set.univ (m := Memref.whole cc0_stg0_0) (Finset.subset_univ _)) $$ HX; iintro HX
  iapply (wp_load 𝒱₀ (c : Thread nD τ) none Set.univ (m := Memref.whole cc0_stg1_0) (Finset.subset_univ _)) $$ HW; iintro HW
  iapply (wp_load 𝒱₀ (c : Thread nD τ) none Set.univ (m := Memref.whole cc0_stg2_0) (Finset.subset_univ _)) $$ HI; iintro HI
  iapply (wp_load 𝒱₀ (c : Thread nD τ) none Set.univ (m := Memref.whole cc0_stg2_0) (Finset.subset_univ _)) $$ HI; iintro HI
  simp only [k0_part19_eq_skeleton]; unfold k0_part19_skel
  simp only [semSignalWord, semWaitWord, Prog.lift, Prog.bind_op, Prog.bind_ret, Prog.pure_eq_ret]
  simp only [k0_part20_eq_skeleton]; unfold k0_part20_skel
  simp only [semSignalWord, semWaitWord, Prog.lift, Prog.bind_op, Prog.bind_ret, Prog.pure_eq_ret]
  iapply (stale_step c 4 rfl) $$ Hs4; iintro %_ Hs4
  iapply (fill_step c 4 rfl) $$ Hs4; iintro Hs4
  simp only [k0_part21_eq_skeleton]; unfold k0_part21_skel
  simp only [semSignalWord, semWaitWord, Prog.lift, Prog.bind_op, Prog.bind_ret, Prog.pure_eq_ret]
  icases Ht4 with ⟨Htk, Htk'⟩
  iapply (send_step (sent m) K c 4 hq4 rfl rfl rfl rfl rfl (HEq.refl (sent m c 4)) rfl rfl) $$ [Hs4 Hn4 HO Htk Htk']
  · isplitr; · iexact HR
    isplitl [Hs4]; · iexact Hs4
    isplitl [Hn4]; · iexact Hn4
    isplitl [HO]; · iexact HO
    isplitl [Htk] <;> iassumption
  iintro ⟨Hc4, HO⟩
  iapply (wp_load 𝒱₀ (c : Thread nD τ) none Set.univ (m := Memref.whole cc0_stg0_0) (Finset.subset_univ _)) $$ HX; iintro HX
  iapply (wp_load 𝒱₀ (c : Thread nD τ) none Set.univ (m := Memref.whole cc0_stg1_0) (Finset.subset_univ _)) $$ HW; iintro HW
  simp only [k0_part22_eq_skeleton]; unfold k0_part22_skel
  simp only [semSignalWord, semWaitWord, Prog.lift, Prog.bind_op, Prog.bind_ret, Prog.pure_eq_ret]
  iapply (wp_load 𝒱₀ (c : Thread nD τ) none Set.univ (m := Memref.whole cc0_stg2_0) (Finset.subset_univ _)) $$ HI; iintro HI
  iapply (wp_load 𝒱₀ (c : Thread nD τ) none Set.univ (m := Memref.whole cc0_stg2_0) (Finset.subset_univ _)) $$ HI; iintro HI
  simp only [k0_part23_eq_skeleton]; unfold k0_part23_skel
  simp only [semSignalWord, semWaitWord, Prog.lift, Prog.bind_op, Prog.bind_ret, Prog.pure_eq_ret]
  simp only [k0_part24_eq_skeleton]; unfold k0_part24_skel
  simp only [semSignalWord, semWaitWord, Prog.lift, Prog.bind_op, Prog.bind_ret, Prog.pure_eq_ret]
  iapply (stale_step c 5 rfl) $$ Hs5; iintro %_ Hs5
  iapply (fill_step c 5 rfl) $$ Hs5; iintro Hs5
  icases Ht5 with ⟨Htk, Htk'⟩
  iapply (send_step (sent m) K c 5 hq5 rfl rfl rfl rfl rfl (HEq.refl (sent m c 5)) rfl rfl) $$ [Hs5 Hn5 HO Htk Htk']
  · isplitr; · iexact HR
    isplitl [Hs5]; · iexact Hs5
    isplitl [Hn5]; · iexact Hn5
    isplitl [HO]; · iexact HO
    isplitl [Htk] <;> iassumption
  iintro ⟨Hc5, HO⟩
  simp only [k0_part25_eq_skeleton]; unfold k0_part25_skel
  simp only [semSignalWord, semWaitWord, Prog.lift, Prog.bind_op, Prog.bind_ret, Prog.pure_eq_ret]
  iapply (wp_load 𝒱₀ (c : Thread nD τ) none Set.univ (m := Memref.whole cc0_stg0_0) (Finset.subset_univ _)) $$ HX; iintro HX
  iapply (wp_load 𝒱₀ (c : Thread nD τ) none Set.univ (m := Memref.whole cc0_stg1_0) (Finset.subset_univ _)) $$ HW; iintro HW
  iapply (wp_load 𝒱₀ (c : Thread nD τ) none Set.univ (m := Memref.whole cc0_stg2_0) (Finset.subset_univ _)) $$ HI; iintro HI
  iapply (wp_load 𝒱₀ (c : Thread nD τ) none Set.univ (m := Memref.whole cc0_stg2_0) (Finset.subset_univ _)) $$ HI; iintro HI
  simp only [k0_part26_eq_skeleton]; unfold k0_part26_skel
  simp only [semSignalWord, semWaitWord, Prog.lift, Prog.bind_op, Prog.bind_ret, Prog.pure_eq_ret]
  simp only [k0_part27_eq_skeleton]; unfold k0_part27_skel
  simp only [semSignalWord, semWaitWord, Prog.lift, Prog.bind_op, Prog.bind_ret, Prog.pure_eq_ret]
  iapply (stale_step c 6 rfl) $$ Hs6; iintro %_ Hs6
  iapply (fill_step c 6 rfl) $$ Hs6; iintro Hs6
  simp only [k0_part28_eq_skeleton]; unfold k0_part28_skel
  simp only [semSignalWord, semWaitWord, Prog.lift, Prog.bind_op, Prog.bind_ret, Prog.pure_eq_ret]
  icases Ht6 with ⟨Htk, Htk'⟩
  iapply (send_step (sent m) K c 6 hq6 rfl rfl rfl rfl rfl (HEq.refl (sent m c 6)) rfl rfl) $$ [Hs6 Hn6 HO Htk Htk']
  · isplitr; · iexact HR
    isplitl [Hs6]; · iexact Hs6
    isplitl [Hn6]; · iexact Hn6
    isplitl [HO]; · iexact HO
    isplitl [Htk] <;> iassumption
  iintro ⟨Hc6, HO⟩
  rw [show Orecv ((6 : Fin 7).val + 1) c = 0 from Orecv_end c]
  -- its own chunk
  iapply (wp_load 𝒱₀ (c : Thread nD τ) none Set.univ (m := Memref.whole cc0_stg0_0) (Finset.subset_univ _)) $$ HX; iintro HX
  iapply (wp_load 𝒱₀ (c : Thread nD τ) none Set.univ (m := Memref.whole cc0_stg1_0) (Finset.subset_univ _)) $$ HW; iintro HW
  iapply (wp_load 𝒱₀ (c : Thread nD τ) none Set.univ (m := Memref.whole cc0_stg2_0) (Finset.subset_univ _)) $$ HI; iintro HI
  iapply (wp_load 𝒱₀ (c : Thread nD τ) none Set.univ (m := Memref.whole cc0_stg2_0) (Finset.subset_univ _)) $$ HI; iintro HI
  simp only [k0_part29_eq_skeleton]; unfold k0_part29_skel
  simp only [semSignalWord, semWaitWord, Prog.lift, Prog.bind_op, Prog.bind_ret, Prog.pure_eq_ret]
  simp only [k0_part30_eq_skeleton]; unfold k0_part30_skel
  simp only [semSignalWord, semWaitWord, Prog.lift, Prog.bind_op, Prog.bind_ret, Prog.pure_eq_ret]
  iapply (wp_load 𝒱₀ (c : Thread nD τ) none Set.univ (m := Memref.whole cc0_stg2_0) (Finset.subset_univ _)) $$ HI; iintro HI
  simp only [k0_part31_eq_skeleton]; unfold k0_part31_skel
  simp only [semSignalWord, semWaitWord, Prog.lift, Prog.bind_op, Prog.bind_ret, Prog.pure_eq_ret]
  iapply (wp_load 𝒱₀ (c : Thread nD τ) none Set.univ (m := Memref.whole cc0_stg0_0) (Finset.subset_univ _)) $$ HX; iintro HX
  iapply (wp_load 𝒱₀ (c : Thread nD τ) none Set.univ (m := Memref.whole cc0_stg4_0) (Finset.subset_univ _)) $$ HD; iintro HD
  iapply (wp_load 𝒱₀ (c : Thread nD τ) none Set.univ (m := Memref.whole cc0_stg2_0) (Finset.subset_univ _)) $$ HI; iintro HI
  -- the seven arrivals
  simp only [k0_part32_eq_skeleton]; unfold k0_part32_skel
  simp only [semSignalWord, semWaitWord, Prog.lift, Prog.bind_op, Prog.bind_ret, Prog.pure_eq_ret]
  icases Hr0 with ⟨Hcr, Har⟩
  iapply (landed_step (sent m) K c 0 rfl rfl) $$ [HO Hcr Har]
  · isplitr; · iexact HR
    isplitl [HO]; · iexact HO
    isplitl [Hcr] <;> iassumption
  iintro ⟨HO, Hz0, Hp0⟩
  iapply (read_step (sent m) c 0 rfl (w := sent m (nx (back 0) c) 0) HEq.rfl) $$ Hp0; iintro Hp0
  simp only [k0_part33_eq_skeleton]; unfold k0_part33_skel
  simp only [semSignalWord, semWaitWord, Prog.lift, Prog.bind_op, Prog.bind_ret, Prog.pure_eq_ret]
  iapply (wp_load 𝒱₀ (c : Thread nD τ) none Set.univ (m := Memref.whole cc0_stg2_0) (Finset.subset_univ _)) $$ HI; iintro HI
  icases Hr1 with ⟨Hcr, Har⟩
  iapply (landed_step (sent m) K c 1 rfl rfl) $$ [HO Hcr Har]
  · isplitr; · iexact HR
    isplitl [HO]; · iexact HO
    isplitl [Hcr] <;> iassumption
  iintro ⟨HO, Hz1, Hp1⟩
  simp only [k0_part34_eq_skeleton]; unfold k0_part34_skel
  simp only [semSignalWord, semWaitWord, Prog.lift, Prog.bind_op, Prog.bind_ret, Prog.pure_eq_ret]
  iapply (read_step (sent m) c 1 rfl (w := sent m (nx (back 1) c) 1) HEq.rfl) $$ Hp1; iintro Hp1
  iapply (wp_load 𝒱₀ (c : Thread nD τ) none Set.univ (m := Memref.whole cc0_stg2_0) (Finset.subset_univ _)) $$ HI; iintro HI
  simp only [k0_part35_eq_skeleton]; unfold k0_part35_skel
  simp only [semSignalWord, semWaitWord, Prog.lift, Prog.bind_op, Prog.bind_ret, Prog.pure_eq_ret]
  icases Hr2 with ⟨Hcr, Har⟩
  iapply (landed_step (sent m) K c 2 rfl rfl) $$ [HO Hcr Har]
  · isplitr; · iexact HR
    isplitl [HO]; · iexact HO
    isplitl [Hcr] <;> iassumption
  iintro ⟨HO, Hz2, Hp2⟩
  iapply (read_step (sent m) c 2 rfl (w := sent m (nx (back 2) c) 2) HEq.rfl) $$ Hp2; iintro Hp2
  iapply (wp_load 𝒱₀ (c : Thread nD τ) none Set.univ (m := Memref.whole cc0_stg2_0) (Finset.subset_univ _)) $$ HI; iintro HI
  simp only [k0_part36_eq_skeleton]; unfold k0_part36_skel
  simp only [semSignalWord, semWaitWord, Prog.lift, Prog.bind_op, Prog.bind_ret, Prog.pure_eq_ret]
  icases Hr3 with ⟨Hcr, Har⟩
  iapply (landed_step (sent m) K c 3 rfl rfl) $$ [HO Hcr Har]
  · isplitr; · iexact HR
    isplitl [HO]; · iexact HO
    isplitl [Hcr] <;> iassumption
  iintro ⟨HO, Hz3, Hp3⟩
  iapply (read_step (sent m) c 3 rfl (w := sent m (nx (back 3) c) 3) HEq.rfl) $$ Hp3; iintro Hp3
  simp only [k0_part37_eq_skeleton]; unfold k0_part37_skel
  simp only [semSignalWord, semWaitWord, Prog.lift, Prog.bind_op, Prog.bind_ret, Prog.pure_eq_ret]
  iapply (wp_load 𝒱₀ (c : Thread nD τ) none Set.univ (m := Memref.whole cc0_stg2_0) (Finset.subset_univ _)) $$ HI; iintro HI
  icases Hr4 with ⟨Hcr, Har⟩
  iapply (landed_step (sent m) K c 4 rfl rfl) $$ [HO Hcr Har]
  · isplitr; · iexact HR
    isplitl [HO]; · iexact HO
    isplitl [Hcr] <;> iassumption
  iintro ⟨HO, Hz4, Hp4⟩
  iapply (read_step (sent m) c 4 rfl (w := sent m (nx (back 4) c) 4) HEq.rfl) $$ Hp4; iintro Hp4
  simp only [k0_part38_eq_skeleton]; unfold k0_part38_skel
  simp only [semSignalWord, semWaitWord, Prog.lift, Prog.bind_op, Prog.bind_ret, Prog.pure_eq_ret]
  iapply (wp_load 𝒱₀ (c : Thread nD τ) none Set.univ (m := Memref.whole cc0_stg2_0) (Finset.subset_univ _)) $$ HI; iintro HI
  simp only [k0_part39_eq_skeleton]; unfold k0_part39_skel
  simp only [semSignalWord, semWaitWord, Prog.lift, Prog.bind_op, Prog.bind_ret, Prog.pure_eq_ret]
  icases Hr5 with ⟨Hcr, Har⟩
  iapply (landed_step (sent m) K c 5 rfl rfl) $$ [HO Hcr Har]
  · isplitr; · iexact HR
    isplitl [HO]; · iexact HO
    isplitl [Hcr] <;> iassumption
  iintro ⟨HO, Hz5, Hp5⟩
  iapply (read_step (sent m) c 5 rfl (w := sent m (nx (back 5) c) 5) HEq.rfl) $$ Hp5; iintro Hp5
  iapply (wp_load 𝒱₀ (c : Thread nD τ) none Set.univ (m := Memref.whole cc0_stg2_0) (Finset.subset_univ _)) $$ HI; iintro HI
  simp only [k0_part40_eq_skeleton]; unfold k0_part40_skel
  simp only [semSignalWord, semWaitWord, Prog.lift, Prog.bind_op, Prog.bind_ret, Prog.pure_eq_ret]
  icases Hr6 with ⟨Hcr, Har⟩
  iapply (landed_step (sent m) K c 6 rfl rfl) $$ [HO Hcr Har]
  · isplitr; · iexact HR
    isplitl [HO]; · iexact HO
    isplitl [Hcr] <;> iassumption
  iintro ⟨HO, Hz6, Hp6⟩
  iapply (read_step (sent m) c 6 rfl (w := sent m (nx (back 6) c) 6) HEq.rfl) $$ Hp6; iintro Hp6
  iapply (wp_load 𝒱₀ (c : Thread nD τ) none Set.univ (m := Memref.whole cc0_stg5_0) (Finset.subset_univ _)) $$ Hout; iintro Hout
  -- the result
  iapply (wp_store 𝒱₀ (c : Thread nD τ) none Set.univ (m := Memref.whole cc0_stg5_0)
    (r := Rect.unit (s := S256x1024) ![0, 0] S256x1024.size inb_S256x1024_S256x1024_0_0) (Mk := Finset.univ) (Finset.subset_univ _)) $$ Hout; iintro Hout
  ihave Hout := (Entails.of_eq (congrArg (fun X => iprop(((c : Thread nD τ).loc cc0_stg5_0) ↦{fullShare} X))
    ((Memref.write_access_unit_zero_univ (Elt F) cc0_stg5_0 (by decide) _ fo _).trans (show _ = outAt m c from rfl)))) $$ Hout
  iapply (sent_step (sent m) K c 0 rfl rfl) $$ [HO Hc0 Ha0]
  · isplitr; · iexact HR
    isplitl [HO]; · iexact HO
    isplitl [Hc0] <;> iassumption
  iintro ⟨HO, Hy0, Hs0⟩
  simp only [k0_part41_eq_skeleton]; unfold k0_part41_skel
  simp only [semSignalWord, semWaitWord, Prog.lift, Prog.bind_op, Prog.bind_ret, Prog.pure_eq_ret]
  iapply (sent_step (sent m) K c 1 rfl rfl) $$ [HO Hc1 Ha1]
  · isplitr; · iexact HR
    isplitl [HO]; · iexact HO
    isplitl [Hc1] <;> iassumption
  iintro ⟨HO, Hy1, Hs1⟩
  iapply (sent_step (sent m) K c 2 rfl rfl) $$ [HO Hc2 Ha2]
  · isplitr; · iexact HR
    isplitl [HO]; · iexact HO
    isplitl [Hc2] <;> iassumption
  iintro ⟨HO, Hy2, Hs2⟩
  iapply (sent_step (sent m) K c 3 rfl rfl) $$ [HO Hc3 Ha3]
  · isplitr; · iexact HR
    isplitl [HO]; · iexact HO
    isplitl [Hc3] <;> iassumption
  iintro ⟨HO, Hy3, Hs3⟩
  iapply (sent_step (sent m) K c 4 rfl rfl) $$ [HO Hc4 Ha4]
  · isplitr; · iexact HR
    isplitl [HO]; · iexact HO
    isplitl [Hc4] <;> iassumption
  iintro ⟨HO, Hy4, Hs4⟩
  iapply (sent_step (sent m) K c 5 rfl rfl) $$ [HO Hc5 Ha5]
  · isplitr; · iexact HR
    isplitl [HO]; · iexact HO
    isplitl [Hc5] <;> iassumption
  iintro ⟨HO, Hy5, Hs5⟩
  iapply (sent_step (sent m) K c 6 rfl rfl) $$ [HO Hc6 Ha6]
  · isplitr; · iexact HR
    isplitl [HO]; · iexact HO
    isplitl [Hc6] <;> iassumption
  iintro ⟨HO, Hy6, Hs6⟩
  rw [wp_ret]; imodintro
  iapply Hk
  unfold bodyPost
  simp only [bigSep_fin7]
  isplitl [HO]; · iexact HO
  isplitl [HzB]; · iexact HzB
  isplitl [Hy0 Hy1 Hy2 Hy3 Hy4 Hy5 Hy6]
  · isplitl [Hy0]; · iexact Hy0
    isplitl [Hy1]; · iexact Hy1
    isplitl [Hy2]; · iexact Hy2
    isplitl [Hy3]; · iexact Hy3
    isplitl [Hy4]; · iexact Hy4
    isplitl [Hy5] <;> iassumption
  isplitl [Hz0 Hz1 Hz2 Hz3 Hz4 Hz5 Hz6]
  · isplitl [Hz0]; · iexact Hz0
    isplitl [Hz1]; · iexact Hz1
    isplitl [Hz2]; · iexact Hz2
    isplitl [Hz3]; · iexact Hz3
    isplitl [Hz4]; · iexact Hz4
    isplitl [Hz5] <;> iassumption
  isplitl [Hs0 Hs1 Hs2 Hs3 Hs4 Hs5 Hs6]
  · isplitl [Hs0]; · iexact Hs0
    isplitl [Hs1]; · iexact Hs1
    isplitl [Hs2]; · iexact Hs2
    isplitl [Hs3]; · iexact Hs3
    isplitl [Hs4]; · iexact Hs4
    isplitl [Hs5] <;> iassumption
  isplitl [Hp0 Hp1 Hp2 Hp3 Hp4 Hp5 Hp6]
  · isplitl [Hp0]; · iexact Hp0
    isplitl [Hp1]; · iexact Hp1
    isplitl [Hp2]; · iexact Hp2
    isplitl [Hp3]; · iexact Hp3
    isplitl [Hp4]; · iexact Hp4
    isplitl [Hp5] <;> iassumption
  isplitl [HX]; · iexact HX
  isplitl [HW]; · iexact HW
  isplitl [HI]; · iexact HI
  isplitl [HE]; · iexact HE
  isplitl [HD] <;> iassumption

end Cert.KernelIdeal.Moe

end
-- ==== Proof.Launch.lean ====
/-
# The run of the kernel

The pipeline's proof data for the one launch, the launch's ghost state dealt to the devices, and the run:
from any memory every execution ends, with each device's result block `outAt` written to its result array,
every argument unchanged and every semaphore at zero.
-/
module

public import proofs.«01_k».proof.Proof.Body
public import Idealize.ShloMosaic.Lib.Pipeline.CollectiveSegs

@[expose] public section

set_option maxRecDepth 8000

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch. -/
def s₀ : MemSt nD τ sig (Elt F) := ⟨m, fun _ => 0, ρ⟩

/-! ## The pipeline's proof data -/

/-- What a device starts from: its ghost state at some names, its credit, the levels. -/
def start (c : Dev nD) : sProp 𝕄 :=
  iprop((∃ K, ghost m K c) ∗ cred (tallyAt (barCell c) () 7)
    ∗ (bigSep Finset.univ fun k : Fin 7 => cred (tallyAt (recvCell c k) () N)) ∗ levAts L lv)

/-- Every slot of the send and of the landing buffer, at some contents. -/
def slots (c : Dev nD) : sProp 𝕄 :=
  iprop((bigSep Finset.univ fun k : Fin 7 => iprop(∃ f, sendPts (F := F) c k f))
    ∗ (bigSep Finset.univ fun k : Fin 7 => iprop(∃ f, commPts (F := F) c k f)))

def Φ₀ (c : Dev nD) : sProp 𝕄 := iprop(start m c ∗ slots (F := F) c)
def Φ₁ (c : Dev nD) : sProp 𝕄 :=
  iprop(semVal (barCell c) 0 ∗ (bigSep Finset.univ fun k : Fin 7 => semVal (sendCell c k) 0)
    ∗ (bigSep Finset.univ fun k : Fin 7 => semVal (recvCell c k) 0) ∗ slots (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => in0 m c
    | ⟨1, _⟩ => in1 m c
    | ⟨2, _⟩ => in2 m c
    | ⟨3, _⟩ => in3 m c
    | ⟨4, _⟩ => in4 m c
    | ⟨5, _⟩ => outAt m c
  Φ t := match t with
    | ⟨0, _⟩ => Φ₀ m c
    | ⟨_ + 1, _⟩ => Φ₁ c
  q _ := fullShare
  owed t := match t with
    | ⟨0, _⟩ => Obar 0 c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-! ## The body obligation -/

/-- The obligation's two sides, window by window. -/
def obligPre (c : Dev nD) : sProp 𝕄 :=
  iprop(Φ₀ m c ∗ (dats m ρ 0 c).owesAt () t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))
def obligPost (c : Dev nD) : sProp 𝕄 :=
  iprop(Φ₁ c ∗ (dats m ρ 0 c).owesAt () t0_0.succ
    ∗ stg c cc0_stg0_0 (in0 m c) ∗ stg c cc0_stg1_0 (in1 m c) ∗ stg c cc0_stg2_0 (in2 m c) ∗ stg c cc0_stg3_0 (in3 m c)
    ∗ stg c cc0_stg4_0 (in4 m c) ∗ stg c cc0_stg5_0 (outAt m c))

theorem before_0 (c : Dev nD) (d) : (dats m ρ 0 c).before (0 : Fin 6) t0_0 d = in0 m c := by
  unfold Dat.before; rw [if_pos (fetch0_0 t0_0)]; rfl
theorem before_1 (c : Dev nD) (d) : (dats m ρ 0 c).before (1 : Fin 6) t0_0 d = in1 m c := by
  unfold Dat.before; rw [if_pos (fetch0_1 t0_0)]; rfl
theorem before_2 (c : Dev nD) (d) : (dats m ρ 0 c).before (2 : Fin 6) t0_0 d = in2 m c := by
  unfold Dat.before; rw [if_pos (fetch0_2 t0_0)]; rfl
theorem before_3 (c : Dev nD) (d) : (dats m ρ 0 c).before (3 : Fin 6) t0_0 d = in3 m c := by
  unfold Dat.before; rw [if_pos (fetch0_3 t0_0)]; rfl
theorem before_4 (c : Dev nD) (d) : (dats m ρ 0 c).before (4 : Fin 6) t0_0 d = in4 m c := by
  unfold Dat.before; rw [if_pos (fetch0_4 t0_0)]; rfl

omit [FloatOps F] in
/-- A staging buffer held at `X`, two ways. -/
theorem stg_eq (c : Dev nD) (b : Ref sig .tc) (X : b.ty.Contents (Elt F)) :
    (stg c b X : sProp 𝕄) ⊢ (((c : Thread nD τ).loc b) ↦{fullShare} X) := by
  iintro ⟨%f, %hf, H⟩; subst hf; iexact H
omit [FloatOps F] in
theorem eq_stg (c : Dev nD) (b : Ref sig .tc) (X : b.ty.Contents (Elt F)) :
    ((((c : Thread nD τ).loc b) ↦{fullShare} X) : sProp 𝕄) ⊢ stg c b X := by
  iintro H; iexists _
  isplitr; · (ipureintro; rfl)
  iexact H

omit [FloatOps F] in
/-- The signals' duties with the slots they hand over. -/
theorem sig_intro (c : Dev nD) :
    iprop((bigSep Finset.univ fun k : Fin 7 => dutyTok ER (barCell (nx k c)) 0 k) ∗ bigSep Finset.univ fun k : Fin 7 => iprop(∃ f, commPts (F := F) c k f))
      ⊢ bigSep Finset.univ fun k : Fin 7 => sigRes (F := F) c k := by
  rw [bigSep_univ_equiv Fin.revPerm (fun k : Fin 7 => iprop(∃ f, commPts (F := F) c k f)), ← bigSep_sep']
  exact bigSep_mono fun k _ => Entails.refl _

theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show obligPre m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_stg5_0) (Memref.isWhole_whole _)
      (Memref.whole cc0_scratch0) (Memref.isWhole_whole _) (Memref.whole cc0_scratch1) (Memref.isWhole_whole _)
      cc0_scratch2 cc0_scratch3) (fun _ => obligPost m ρ c)
  unfold obligPre Φ₀ start slots ghost
  simp only [before_0, before_1, before_2, before_3, before_4]
  iintro ⟨⟨⟨⟨%K, #HR, HaB, HtB, HtS, HaR, HaS⟩, HcB, HcR, #Hlev⟩, Hss, Hcs⟩, Ho, ⟨%_, H0⟩, ⟨%_, H1⟩, ⟨%_, H2⟩, ⟨%_, H3⟩, ⟨%_, H4⟩, ⟨%_, %f5, -, H5⟩⟩
  unfold Dat.owesAt Pipeline.owesWithin
  icases Ho with ⟨%W, -, HO⟩
  rw [show (dats m ρ 0 c).owed t0_0.castSucc = Obar 0 c from rfl]
  iapply (sound_body m K c fun _ => obligPost m ρ c)
  unfold bodyPre rcvRes
  simp only [bigSep_sep']
  isplitr []
  · isplitr; · iexact HR
    isplitr; · iexact Hlev
    isplitl [HO]; · (unfold owing; iexists W; iexact HO)
    isplitl [HcB]; · iexact HcB
    isplitl [HaB]; · iexact HaB
    isplitl [HtB Hcs]; · (iapply (sig_intro (F := F) c); isplitl [HtB] <;> iassumption)
    isplitl [HtS]; · iexact HtS
    isplitl [Hss]; · iexact Hss
    isplitl [HcR HaR]; · (isplitl [HcR] <;> iassumption)
    isplitl [HaS]; · iexact HaS
    isplitl [H0]; · (iapply (stg_eq (F := F) c); iexact H0)
    isplitl [H1]; · (iapply (stg_eq (F := F) c); iexact H1)
    isplitl [H2]; · (iapply (stg_eq (F := F) c); iexact H2)
    isplitl [H3]; · (iapply (stg_eq (F := F) c); iexact H3)
    isplitl [H4]; · (iapply (stg_eq (F := F) c); iexact H4)
    iexists f5; iexact H5
  · unfold bodyPost obligPost Φ₁ slots owing Dat.owesAt Pipeline.owesWithin
    rw [show (dats m ρ 0 c).owed t0_0.succ = 0 from rfl]
    iintro ⟨⟨%W', HO⟩, HzB, HzS, HzR, Hss, Hcs, H0, H1, H2, H3, H4, H5⟩
    isplitl [HzB HzS HzR Hss Hcs]
    · isplitl [HzB]; · iexact HzB
      isplitl [HzS]; · iexact HzS
      isplitl [HzR]; · iexact HzR
      isplitl [Hss] <;> iassumption
    isplitl [HO]
    · iexists W'
      isplitr; · (ipureintro; exact fun _ _ => Or.inl trivial)
      iexact HO
    isplitl [H0]; · (iapply (eq_stg (F := F) c); iexact H0)
    isplitl [H1]; · (iapply (eq_stg (F := F) c); iexact H1)
    isplitl [H2]; · (iapply (eq_stg (F := F) c); iexact H2)
    isplitl [H3]; · (iapply (eq_stg (F := F) c); iexact H3)
    isplitl [H4]; · (iapply (eq_stg (F := F) c); iexact H4)
    iapply (eq_stg (F := F) c); iexact H5

/-! ## The launch -/

/-- The kernel's own semaphores: send and receive. -/
abbrev osem : Bool × Fin 7 → SemLoc sig := fun x => csem (some x)

theorem ownSemFacts : Pipeline.OwnSemFacts cfg0.spec osem := by decide

theorem share_eq (c : Dev nD) (w : Fin cfg0.W) : (dats m ρ 0 c).share w = fullShare := by unfold Dat.share; split <;> rfl

def exCells : Finset (GSem nD τ sig) := Finset.univ.map ⟨kcell, kcell_injective⟩

/-- The duties of a device's own cells, by kind: at its barrier one for each step, one for each send and
    each receive semaphore. -/
abbrev tokOf (x : Dev nD × (Option Bool × Fin 7)) : GSem nD τ sig × ℕ × Fin 7 :=
  match x.2.1 with
  | none => (barCell x.1, 0, x.2.2)
  | some false => (sendCell x.1 x.2.2, 0, 0)
  | some true => (recvCell x.1 x.2.2, 0, 0)
theorem tokOf_injective : Function.Injective tokOf := by
  have hdev : ∀ x, (tokOf x).1.1.1 = x.1 := by rintro ⟨c, _ | _ | _, k⟩ <;> rfl
  have hkey : ∀ x, ((tokOf x).1.2, (tokOf x).2.2)
      = (csem (x.2.1.map fun b => (b, x.2.2)), if x.2.1 = none then x.2.2 else 0) := by rintro ⟨c, _ | _ | _, k⟩ <;> rfl
  rintro ⟨c, j, k⟩ ⟨c', j', k'⟩ h
  have h1 : c = c' := (hdev (c, j, k)).symm.trans ((congrArg (fun y : GSem nD τ sig × ℕ × Fin 7 => y.1.1.1) h).trans (hdev (c', j', k')))
  have h2 := (hkey (c, j, k)).symm.trans ((congrArg (fun y : GSem nD τ sig × ℕ × Fin 7 => (y.1.2, y.2.2)) h).trans (hkey (c', j', k')))
  have h3 := csem_injective (congrArg Prod.fst h2)
  have h4 := congrArg Prod.snd h2
  subst h1
  rcases j with _ | b <;> rcases j' with _ | b'
  · simp only [if_true] at h4; rw [h4]
  · cases h3
  · cases h3
  · simp only [Option.map_some, Option.some.injEq, Prod.mk.injEq] at h3
    rw [h3.1, h3.2]
def exToks : Finset (GSem nD τ sig × ℕ × Fin 7) := Finset.univ.map ⟨tokOf, tokOf_injective⟩

def u₀ : UU :=
  (initOf (Pipeline.cells cfgs cellOf_inj) (Pipeline.launchToks cfgs cellOf_inj), initOf exCells exToks)

omit [FloatOps F] in
theorem bigSep_option {I : Type} [Fintype I] [DecidableEq I] (Φ : Option I → sProp 𝕄) :
    bigSep Finset.univ Φ = iprop(Φ none ∗ bigSep Finset.univ fun i => Φ (some i)) := by
  rw [bigSep_univ_at Φ none, show (Finset.univ : Finset (Option I)).erase none = Finset.univ.map Function.Embedding.some from by
    ext x; cases x <;> simp, bigSep_map]
  rfl
omit [FloatOps F] in
theorem bigSep_bool (Φ : Bool → sProp 𝕄) : bigSep Finset.univ Φ = iprop(Φ false ∗ Φ true) :=
  bigSep_univ_eq_bigSepL [false, true] (by decide) (by decide) Φ

omit [FloatOps F] in
/-- Over a device's cells: its barrier's, its send and its receive semaphores'. -/
theorem bigSep_CK (Φ : CK → sProp 𝕄) : bigSep Finset.univ Φ
    = iprop(Φ none ∗ (bigSep Finset.univ fun k : Fin 7 => Φ (some (false, k))) ∗ bigSep Finset.univ fun k : Fin 7 => Φ (some (true, k))) := by
  rw [bigSep_option, bigSep_univ_prod, bigSep_bool]

/-- The duties of device `c`'s own cells. -/
def toks (c : Dev nD) : sProp 𝕄 :=
  iprop((bigSep Finset.univ fun k : Fin 7 => dutyTok ER (barCell c) 0 k)
    ∗ (bigSep Finset.univ fun k : Fin 7 => dutyTok ER (sendCell c k) 0 0)
    ∗ (bigSep Finset.univ fun k : Fin 7 => dutyTok ER (recvCell c k) 0 0))

/-- What the launch deals device `c`. -/
def G (c : Dev nD) : sProp 𝕄 :=
  iprop((bigSep Finset.univ fun k : CK => roundState ER (Rd (sent m)) (kcell (c, k)) 0)
    ∗ (bigSep Finset.univ fun k : CK => iprop(atPos ER (kcell (c, k)) 0 ∅ 0 ∗ reached ER (kcell (c, k)) 0)) ∗ toks c)

def G' (c : Dev nD) : sProp 𝕄 := iprop(∃ K, ghost m K c)

theorem fund_exchange : BI.own (ER (initOf exCells exToks)) ⊢ (|==> bigSep Finset.univ (G m) : sProp 𝕄) := by
  have hX (Φ : GSem nD τ sig → sProp 𝕄) : bigSep exCells Φ = bigSep Finset.univ fun c : Dev nD => bigSep Finset.univ fun k : CK => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]
    exact bigSep_congr fun c _ => by unfold toks; rw [bigSep_univ_prod, bigSep_option, bigSep_bool]; rfl
  iintro HX
  imod (Rounds.fund ER (Rd (sent m)) exCells exToks) $$ HX with ⟨Hst, Hr, Hat, Htok⟩
  imodintro
  ihave Hst' := (Entails.of_eq (hX fun g => roundState ER (Rd (sent m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(unscopedSems0 c ∗ Pipeline.ownSems0 (Ix := Unit) (Name := ℕ) (U := UU) (Lvl := ℕ) (Val := Elt F) (τ := τ) osem c)
      = (bigSep Finset.univ fun k : CK => semVal (kcell (c, k)) 0 : sProp 𝕄) := by
  rw [unscopedSems0_eq, bigSep_option]; rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd (sent m)) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq (sems0_eq (F := F) c)) $$ [Hos Hus]
  · isplitl [Hus] <;> iassumption
  imod (show iprop((bigSep Finset.univ fun k : CK => semVal (kcell (c, k)) 0) ∗ bigSep Finset.univ fun k : CK => roundState ER (Rd (sent m)) (kcell (c, k)) 0)
      ⊢ (|={Set.univ}=> bigSep Finset.univ fun k => iprop(∃ κ : ℕ, cellInv ER (Rd (sent m)) κ (kcell (c, k))) : sProp 𝕄) from by
        rw [← bigSep_sep']
        exact (bigSep_mono fun k _ => (Rounds.body_intro ER (Rd (sent m)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What stays with device `c`: its positions, and the duties it pays. -/
def linear (c : Dev nD) : sProp 𝕄 :=
  iprop((bigSep Finset.univ fun k : CK => atPos ER (kcell (c, k)) 0 ∅ 0)
    ∗ (bigSep Finset.univ fun k : Fin 7 => dutyTok ER (barCell (nx k c)) 0 k)
    ∗ (bigSep Finset.univ fun k : Fin 7 => sndToks (F := F) c k))

theorem ghost_intro (K : Dev nD × CK → ℕ) (c : Dev nD) : iprop(records (sent m) K ∗ linear c) ⊢ G' m c := by
  unfold linear G' ghost
  rw [bigSep_CK]
  iintro ⟨HR, ⟨HaB, HaS, HaR⟩, HtB, HtS⟩
  iexists K
  isplitl [HR]; · iexact HR
  isplitl [HaB]; · iexact HaB
  isplitl [HtB]; · iexact HtB
  isplitl [HtS]; · iexact HtS
  isplitl [HaR]; · iexact HaR
  iexact HaS

omit [FloatOps F] in
/-- Duties dealt around: what is `d`'s at step `k` goes to the device that sends to `d` at step `k`. -/
theorem dealt (Φ : Dev nD → Fin 7 → sProp 𝕄) :
    (bigSep Finset.univ fun c : Dev nD => bigSep Finset.univ fun k : Fin 7 => Φ c k)
      = bigSep Finset.univ fun c : Dev nD => bigSep Finset.univ fun k : Fin 7 => Φ (nx k c) k := by
  rw [← bigSep_univ_prod fun p : Dev nD × Fin 7 => Φ p.1 p.2, bigSep_univ_equiv around, bigSep_univ_prod]; rfl

omit [FloatOps F] in
theorem toks_around : (bigSep Finset.univ fun c : Dev nD => (toks c : sProp 𝕄))
    ⊢ bigSep Finset.univ fun c : Dev nD => iprop((bigSep Finset.univ fun k : Fin 7 => dutyTok ER (barCell (nx k c)) 0 k)
        ∗ (bigSep Finset.univ fun k : Fin 7 => sndToks (F := F) c k)) := by
  unfold toks sndToks
  simp only [bigSep_sep']
  rw [dealt fun c k => (dutyTok ER (barCell c) 0 k : sProp 𝕄), dealt fun c k => (dutyTok ER (recvCell c k) 0 0 : sProp 𝕄)]

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd (sent m)) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × CK => iprop(∃ κ : ℕ, cellInv ER (Rd (sent m)) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (Rd (sent m)) κ (kcell ck) : sProp 𝕄))) $$ HI
  icases HK with ⟨%K, #HI⟩
  ihave Htk := (toks_around (F := F)) $$ Htok
  iapply (bigSep_with_persistent (R := records (sent m) K) fun c _ => ghost_intro m K c)
  isplitr
  · unfold records; isplitl; · iexact HI
    iexact HR
  · iapply (show iprop((bigSep Finset.univ fun c : Dev nD => bigSep Finset.univ fun k : CK => (atPos ER (kcell (c, k)) 0 ∅ 0 : sProp 𝕄))
        ∗ bigSep Finset.univ fun c : Dev nD => iprop((bigSep Finset.univ fun k : Fin 7 => dutyTok ER (barCell (nx k c)) 0 k)
          ∗ (bigSep Finset.univ fun k : Fin 7 => sndToks (F := F) c k))) ⊢ bigSep Finset.univ fun c : Dev nD => linear c from by
      rw [← bigSep_sep']; exact Entails.refl _)
    isplitl [Hat]; · iexact Hat
    iexact Htk

/-- The global step: every device's cells allocated, the duties dealt. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

theorem owed_bar (d c : Dev nD) : Obar 0 d (barCell c) () = ∑ k : Fin 7, if c = nx k d then 1 else 0 := by
  unfold Obar Orecv
  rw [Pi.add_apply, Finsupp.add_apply, sum_tally_apply, sum_tally_apply,
    Finset.sum_eq_zero fun k _ => if_neg fun h => recv_ne_bar k (congrArg Prod.snd h).symm, zero_add]
  rw [show Finset.univ.filter (fun k : Fin 7 => 0 ≤ k.val) = Finset.univ from by decide]
  refine Finset.sum_congr rfl fun k _ => if_congr ⟨fun h => ?_, fun h => by rw [h]⟩ rfl rfl
  exact congrArg (fun g : GSem nD τ sig => g.1.1) h

theorem owed_recv (d c : Dev nD) (k : Fin 7) : Obar 0 d (recvCell c k) () = N * ∑ j : Fin 7, if c = nx j d ∧ k = j then 1 else 0 := by
  unfold Obar Orecv
  rw [Pi.add_apply, Finsupp.add_apply, sum_tally_apply, sum_tally_apply,
    Finset.sum_eq_zero (f := fun j => if recvCell c k = barCell (nx j d) then 1 else 0) fun j _ => if_neg fun h => recv_ne_bar k (congrArg Prod.snd h), add_zero]
  rw [show Finset.univ.filter (fun k : Fin 7 => 0 ≤ k.val) = Finset.univ from by decide, Finset.mul_sum]
  refine Finset.sum_congr rfl fun j _ => ?_
  rw [mul_ite, mul_one, mul_zero]
  refine if_congr ⟨fun h => ?_, fun h => by rw [h.1, h.2]⟩ rfl rfl
  have h' := kcell_injective (a₁ := (c, some (true, k))) (a₂ := (nx j d, some (true, j))) h
  simpa using h'

theorem launch_bar (c : Dev nD) :
    tallyOn (barCell c) (launchCredit (Pipeline.owing (Obar 0)) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

theorem launch_recv (c : Dev nD) (k : Fin 7) :
    tallyOn (recvCell c k) (launchCredit (Pipeline.owing (Obar 0)) 0 (recvCell c k)) = (tallyAt (recvCell c k) () N : CellTallies nD τ sig Unit) := by
  unfold tallyAt; refine congrArg _ (Finsupp.ext fun u => ?_); cases u
  rw [Pipeline.launchCredit_owing, Finsupp.single_eq_same, Finset.sum_congr rfl fun d _ => owed_recv d c k, ← Finset.mul_sum,
    show (∑ d : Dev nD, ∑ j : Fin 7, if c = nx j d ∧ k = j then 1 else 0) = 1 from by revert c k; decide, mul_one]

omit [FloatOps F] in
theorem creds (c : Dev nD) :
    (Pipeline.launchCred (Obar 0) c : sProp 𝕄)
      ⊢ iprop(cred (tallyAt (barCell c) () 7) ∗ bigSep Finset.univ fun k : Fin 7 => cred (tallyAt (recvCell c k) () N)) := by
  unfold Pipeline.launchCred
  rw [bigSep_univ_at _ (SemLoc.reg barS), launch_bar]
  refine sep_mono_right ?_
  have hinj : Function.Injective fun k : Fin 7 => (SemLoc.dma (recvS k) : SemLoc sig) := fun k k' h => by
    have := csem_injective (a₁ := some (true, k)) (a₂ := some (true, k')) h
    simpa using this
  refine (bigSep_subset (t := Finset.univ.map ⟨_, hinj⟩) fun s hs => ?_).trans ?_
  · obtain ⟨k, -, rfl⟩ := Finset.mem_map.mp hs
    exact Finset.mem_erase.mpr ⟨recv_ne_bar k, Finset.mem_univ _⟩
  · rw [bigSep_map]
    exact Entails.of_eq (bigSep_congr fun k _ => congrArg cred (launch_recv c k))

/-! ### The theorem's side conditions -/

theorem start_intro (c : Dev nD) :
    iprop(Pipeline.unscopedRestP Pipeline.Prefetch.none cfg0.spec c (fun b => m ((c : Thread nD τ).loc b)) ∗ levAts L lv
        ∗ Pipeline.launchCred (Obar 0) c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

omit [FloatOps F] in
theorem sendPts_eq (c : Dev nD) (k : Fin 7) (f : Buf (Elt F) ((c : Thread nD τ).loc cc0_scratch0)) :
    (sendPts c k f : sProp 𝕄) = (((c : Thread nD τ).loc cc0_scratch0) ↦[(rslot k).set]{fullShare} f) := by
  unfold sendPts; rw [show (sendM.access (rslot k)).set = (rslot k).set from View.set_slice_whole _ _]
omit [FloatOps F] in
theorem send_split (c : Dev nD) (f : Buf (Elt F) ((c : Thread nD τ).loc cc0_scratch0)) :
    ((((c : Thread nD τ).loc cc0_scratch0) ↦{fullShare} f) : sProp 𝕄) ⊢ bigSep Finset.univ fun k : Fin 7 => iprop(∃ f, sendPts (F := F) c k f) := by
  have h (k : Fin 7) : ((((c : Thread nD τ).loc cc0_scratch0) ↦[(rslot k).set]{fullShare} f) : sProp 𝕄) ⊢ iprop(∃ f, sendPts (F := F) c k f) := by
    rw [← sendPts_eq]; iintro H; iexists f; iexact H
  rw [Ring.pointsTo_blocks (fun k : Fin 7 => (rslot k).set) slots_disjoint slots_cover f]
  exact bigSep_mono fun k _ => h k
omit [FloatOps F] in
theorem send_join (c : Dev nD) (f₀ : Buf (Elt F) ((c : Thread nD τ).loc cc0_scratch0)) :
    (bigSep Finset.univ fun k : Fin 7 => iprop(∃ f, sendPts (F := F) c k f)) ⊢ (iprop(∃ f, ((c : Thread nD τ).loc cc0_scratch0) ↦{fullShare} f) : sProp 𝕄) := by
  have h := Ring.pointsTo_blocks_join_exists (Ix := Unit) (Val := Elt F) (Name := ℕ) (U := UU) (Lvl := ℕ) (ℓ := (c : Thread nD τ).loc cc0_scratch0)
    (fun k : Fin 7 => (rslot k).set) slots_disjoint slots_cover (q := fullShare) f₀
  have e (k : Fin 7) : iprop(∃ f, sendPts (F := F) c k f) = (iprop(∃ f, ((c : Thread nD τ).loc cc0_scratch0) ↦[(rslot k).set]{fullShare} f) : sProp 𝕄) := by
    simp only [sendPts_eq]
  exact (bigSep_mono fun k _ => Entails.of_eq (e k)).trans h

omit [FloatOps F] in
theorem commPts_eq (c : Dev nD) (k : Fin 7) (f : Buf (Elt F) ((c : Thread nD τ).loc cc0_scratch1)) :
    (commPts c k f : sProp 𝕄) = (((c : Thread nD τ).loc cc0_scratch1) ↦[(rslot k).set]{fullShare} f) := by
  unfold commPts; rw [show (commM.access (rslot k)).set = (rslot k).set from View.set_slice_whole _ _]
omit [FloatOps F] in
theorem comm_split (c : Dev nD) (f : Buf (Elt F) ((c : Thread nD τ).loc cc0_scratch1)) :
    ((((c : Thread nD τ).loc cc0_scratch1) ↦{fullShare} f) : sProp 𝕄) ⊢ bigSep Finset.univ fun k : Fin 7 => iprop(∃ f, commPts (F := F) c k f) := by
  have h (k : Fin 7) : ((((c : Thread nD τ).loc cc0_scratch1) ↦[(rslot k).set]{fullShare} f) : sProp 𝕄) ⊢ iprop(∃ f, commPts (F := F) c k f) := by
    rw [← commPts_eq]; iintro H; iexists f; iexact H
  rw [Ring.pointsTo_blocks (fun k : Fin 7 => (rslot k).set) slots_disjoint slots_cover f]
  exact bigSep_mono fun k _ => h k
omit [FloatOps F] in
theorem comm_join (c : Dev nD) (f₀ : Buf (Elt F) ((c : Thread nD τ).loc cc0_scratch1)) :
    (bigSep Finset.univ fun k : Fin 7 => iprop(∃ f, commPts (F := F) c k f)) ⊢ (iprop(∃ f, ((c : Thread nD τ).loc cc0_scratch1) ↦{fullShare} f) : sProp 𝕄) := by
  have h := Ring.pointsTo_blocks_join_exists (Ix := Unit) (Val := Elt F) (Name := ℕ) (U := UU) (Lvl := ℕ) (ℓ := (c : Thread nD τ).loc cc0_scratch1)
    (fun k : Fin 7 => (rslot k).set) slots_disjoint slots_cover (q := fullShare) f₀
  have e (k : Fin 7) : iprop(∃ f, commPts (F := F) c k f) = (iprop(∃ f, ((c : Thread nD τ).loc cc0_scratch1) ↦[(rslot k).set]{fullShare} f) : sProp 𝕄) := by
    simp only [commPts_eq]
  exact (bigSep_mono fun k _ => Entails.of_eq (e k)).trans h

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ slots
  iintro ⟨Hs, -, ⟨%f, H0⟩, ⟨%g, H1⟩⟩
  isplitl [Hs]; · iexact Hs
  isplitl [H0]; · (iapply (send_split (F := F) c f); iexact H0)
  iapply (comm_split (F := F) c g); iexact H1

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ slots
  iintro ⟨HzB, HzS, HzR, H0, H1⟩
  ihave Hz := (Entails.of_eq ((bigSep_CK fun k : CK => semVal (kcell (c, k)) 0).symm.trans (sems0_eq (F := F) c).symm)) $$ [HzB HzS HzR]
  · isplitl [HzB]; · iexact HzB
    isplitl [HzS]; · iexact HzS
    iexact HzR
  icases Hz with ⟨Hu, Hz⟩
  isplitl [Hu]; · iexact Hu
  isplitl [Hz]; · iexact Hz
  isplitl [H0]; · (iapply (send_join (F := F) c fun _ => (Scalar.ofBits .bf16 0#16 : F .bf16)); iexact H0)
  iapply (comm_join (F := F) c fun _ => (Scalar.ofBits .bf16 0#16 : F .bf16)); iexact H1

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- From any memory, with every counter at zero, every fair execution of the program ends, with each device's
    arrays at the computed contents and every counter at zero again. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := Obar 0) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_exchange m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An argument's array holds after the run what it held. -/
theorem final_in (c : Dev nD) (w : Fin 6) (hw : (cfg0.win w).isOut = false) : finalA m ρ c w = m ((cfg0.win w).arr.view.loc (c : Thread nD τ)) :=
  (dats (F := F) m ρ 0 c).arrAt_in w hw _

end Cert.KernelIdeal.Moe

end
-- ==== Proof.Frame.lean ====
/-
# What a run leaves in the arrays

Read off the run of the kernel (Launch.lean): on every device the five argument arrays end as they began, the
result array ends at the pipeline's final contents of its window, and every semaphore reads zero.
-/
module

public import proofs.«01_k».proof.Proof.Launch

@[expose] public section

noncomputable section

namespace Cert.KernelIdeal.Moe

open Cert.KernelIdeal Cert.KernelIdeal.Gen
open Idealize.ShloMosaic Idealize.ShloMosaic.TcCoe Idealize.SL.Sem

variable {F : FTy → Type} [FloatOps F]

/-- Every fair execution ends, with the result array at its window's final contents, the arguments as they
    began, and every semaphore at zero. -/
theorem run_values (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_v1) = finalA m ρ c 5
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨h.1 c 5,
      (h.1 c 0).trans (final_in m ρ c 0 rfl), (h.1 c 1).trans (final_in m ρ c 1 rfl),
      (h.1 c 2).trans (final_in m ρ c 2 rfl), (h.1 c 3).trans (final_in m ρ c 3 rfl),
      (h.1 c 4).trans (final_in m ρ c 4 rfl)⟩, h.2⟩) (run_main m ρ)

end Cert.KernelIdeal.Moe

end
-- ==== Proof.Softmax.lean ====
/-
# Sums and softmax over the extended reals

Sums of real numbers are real, a nonnegative real factor moves into any sum of extended reals, and the softmax of
finitely many real scores is a nonnegative real.
-/
module

public import Idealize.ShloMosaic.Lib.Pointwise

@[expose] public section

noncomputable section

namespace Cert.Moe

open Idealize.ShloMosaic

/-- An extended real that is neither infinity. -/
abbrev IsReal (x : EReal) : Prop := ∃ r : ℝ, x = (r : EReal)

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem isReal_sum {ι : Type*} (s : Finset ι) (f : ι → EReal) (hf : ∀ i, IsReal (f i)) : IsReal (∑ i ∈ s, f i) := by
  choose g hg using hf
  exact ⟨∑ i ∈ s, g i, by rw [coe_sum]; exact Finset.sum_congr rfl fun i _ => hg i⟩

theorem isReal_mul {x y : EReal} (hx : IsReal x) (hy : IsReal y) : IsReal (x * y) := by
  obtain ⟨a, rfl⟩ := hx; obtain ⟨b, rfl⟩ := hy
  exact ⟨a * b, (EReal.coe_mul a b).symm⟩

/-- An absolute value below `⊤` is that of a real. -/
theorem isReal_of_abs_lt_top {x : EReal} (h : max x (-x) < ⊤) : IsReal x := by
  induction x with
  | bot => simp at h
  | top => simp at h
  | coe r => exact ⟨r, rfl⟩

/-- A nonnegative real factor moves into a sum. -/
theorem mul_sum_of_nonneg {ι : Type*} (s : Finset ι) (f : ι → EReal) {p : EReal} (h0 : 0 ≤ p) (ht : p ≠ ⊤) :
    p * ∑ i ∈ s, f i = ∑ i ∈ s, p * f i := by
  classical
  induction s using Finset.induction_on with
  | empty => simp
  | insert a s ha ih => rw [Finset.sum_insert ha, Finset.sum_insert ha, EReal.left_distrib_of_nonneg_of_ne_top h0 ht, ih]

/-- The softmax of scores `s` at `e`, the largest score taken off first. -/
def softmax {n : ℕ} (s : Fin n → EReal) (e : Fin n) : EReal :=
  Ideal.div (Ideal.exp (s e - Finset.univ.fold max (Ideal.ofBits .f32 0xFF800000#32) s))
    (∑ k, Ideal.exp (s k - Finset.univ.fold max (Ideal.ofBits .f32 0xFF800000#32) s))

theorem ofBits_neg_inf : Ideal.ofBits .f32 0xFF800000#32 = ⊥ := by
  simp [Ideal.ofBits, Ideal.ieee]

/-- The largest of finitely many real scores is real. -/
theorem isReal_fold_max {n : ℕ} (hn : 0 < n) (s : Fin n → EReal) (hs : ∀ k, IsReal (s k)) :
    IsReal (Finset.univ.fold max (⊥ : EReal) s) := by
  have h1 : Finset.univ.fold max (⊥ : EReal) s < ⊤ := by
    rw [Finset.fold_max_lt]
    refine ⟨bot_lt_top, fun k _ => ?_⟩
    obtain ⟨a, ha⟩ := hs k
    rw [ha]; exact EReal.coe_lt_top a
  have h2 : ⊥ < Finset.univ.fold max (⊥ : EReal) s := by
    rw [Finset.lt_fold_max]
    refine .inr ⟨⟨0, hn⟩, Finset.mem_univ _, ?_⟩
    obtain ⟨a, ha⟩ := hs ⟨0, hn⟩
    rw [ha]; exact EReal.bot_lt_coe a
  exact ⟨_, (EReal.coe_toReal h1.ne h2.ne').symm⟩

/-- The softmax of real scores is a nonnegative real. -/
theorem softmax_real {n : ℕ} (hn : 0 < n) (s : Fin n → EReal) (hs : ∀ k, IsReal (s k)) (e : Fin n) :
    0 ≤ softmax s e ∧ softmax s e ≠ ⊤ := by
  obtain ⟨M, hM⟩ := isReal_fold_max hn s hs
  choose a ha using hs
  have hx : ∀ k, Ideal.exp (s k - Finset.univ.fold max (Ideal.ofBits .f32 0xFF800000#32) s) = ((Real.exp (a k - M) : ℝ) : EReal) := by
    intro k
    rw [ofBits_neg_inf, hM, ha k, ← EReal.coe_sub, Ideal.exp_coe]
  have hpos : 0 < ∑ k, Real.exp (a k - M) :=
    Finset.sum_pos (fun k _ => Real.exp_pos _) ⟨⟨0, hn⟩, Finset.mem_univ _⟩
  have : softmax s e = ((Real.exp (a e - M) * (1 / ∑ k, Real.exp (a k - M)) : ℝ) : EReal) := by
    rw [softmax, hx e, Finset.sum_congr rfl fun k _ => hx k, ← coe_sum, Ideal.div_coe hpos.ne', EReal.coe_mul]
  rw [this]
  exact ⟨EReal.coe_nonneg.2 (by positivity), EReal.coe_ne_top _⟩

end Cert.Moe

end
-- ==== Proof.Picked.lean ====
/-
# Picking rows, at the ideal instance

The rows of a chunk are routed to experts `e i`. Owner `o` has the experts `4 * o .. 4 * o + 3`. `rank e o i` counts
the owner's rows before row `i`. The kernel's ones below the diagonal, multiplied with the column of owned rows,
compute these ranks; and its picking matrices are one exactly at the places `(rank e o i, i)` of owned rows.
-/
module

public import proofs.«01_k».proof.Proof.Values
public import proofs.«01_k».proof.Proof.Softmax

@[expose] public section

noncomputable section

namespace Cert.KernelIdeal.Moe

open Cert.KernelIdeal Cert.KernelIdeal.Gen
open Idealize.ShloMosaic Idealize.ShloMosaic.TcCoe

/-- Expert `e` is one of owner `o`'s. -/
abbrev Owns (o : Fin 8) (e : Fin 32) : Prop := e.val / 4 = o.val

/-- The number of rows before row `i` that owner `o` has. -/
def rank (e : Fin 256 → Fin 32) (o : Fin 8) (i : Fin 256) : ℕ := (Finset.univ.filter fun k => k < i ∧ Owns o (e k)).card

/-- The number of the owner's rows. -/
def load (e : Fin 256 → Fin 32) (o : Fin 8) : ℕ := (Finset.univ.filter fun k => Owns o (e k)).card

/-- An owned row's rank is below the load. -/
theorem rank_lt_load (e : Fin 256 → Fin 32) (o : Fin 8) (i : Fin 256) (hi : Owns o (e i)) : rank e o i < load e o := by
  refine Finset.card_lt_card (Finset.ssubset_iff_of_subset (fun k hk => ?_) |>.2 ⟨i, ?_, ?_⟩)
  · simp only [Finset.mem_filter, Finset.mem_univ, true_and] at hk ⊢; exact hk.2
  · simpa using hi
  · simp

theorem rank_lt_rank (e : Fin 256 → Fin 32) (o : Fin 8) (i k : Fin 256) (hi : Owns o (e i)) (h : i < k) : rank e o i < rank e o k := by
  refine Finset.card_lt_card (Finset.ssubset_iff_of_subset (fun l hl => ?_) |>.2 ⟨i, ?_, ?_⟩)
  · simp only [Finset.mem_filter, Finset.mem_univ, true_and] at hl ⊢; exact ⟨hl.1.trans h, hl.2⟩
  · simp only [Finset.mem_filter, Finset.mem_univ, true_and]; exact ⟨h, hi⟩
  · simp

/-- Owned rows have different ranks. -/
theorem rank_inj (e : Fin 256 → Fin 32) (o : Fin 8) (i k : Fin 256) (hi : Owns o (e i)) (hk : Owns o (e k))
    (h : rank e o i = rank e o k) : i = k := by
  rcases lt_trichotomy i k with hl | he | hg
  · exact absurd h (rank_lt_rank e o i k hi hl).ne
  · exact he
  · exact absurd h (rank_lt_rank e o k i hk hg).ne'

theorem rank_le (e : Fin 256 → Fin 32) (o : Fin 8) (i : Fin 256) : rank e o i ≤ 256 :=
  (Finset.card_le_univ _).trans (by simp)

/-! ## The kernel's expressions -/

theorem below_apply (i k : Fin 256) : below (F := Ideal) (ix2 i k) = if k < i then 1 else 0 := by
  pointwise [below]
  have : (IntOp.cmpi .slt (BitVec.ofNat 32 k.val) (BitVec.ofNat 32 i.val)) = BitVec.ofBool (decide (k < i)) := by
    simp only [IntOp.cmpi]
    congr 1
    rw [BitVec.slt_eq_decide, decide_eq_decide, BitVec.toInt_eq_toNat_of_lt, BitVec.toInt_eq_toNat_of_lt] <;>
      simp only [BitVec.toNat_ofNat] <;> omega
  rw [this]
  by_cases h : k < i <;> simp [Scalar.select, h]

/-- The word that says whether an expert is the owner's. -/
theorem owned_word (o : Fin 8) (e : Fin 32) :
    IntOp.andi (IntOp.cmpi .sge (BitVec.ofNat 32 e.val) (Scalar.muli (BitVec.ofNat 32 o.val) 4#32))
      (IntOp.cmpi .slt (BitVec.ofNat 32 e.val) (Scalar.addi (Scalar.muli (BitVec.ofNat 32 o.val) 4#32) 4#32))
    = BitVec.ofBool (decide (Owns o e)) := by
  revert o e; decide

variable (e : Fin 256 → Fin 32) (r : Vec Ideal S256x1 .i32) (hr : ∀ i, r (ix2 i 0) = BitVec.ofNat 32 (e i).val) (o : Fin 8)

include hr

theorem owned_apply (i : Fin 256) :
    owned (F := Ideal) (BitVec.ofNat 32 o.val) r (ix2 i 0) = BitVec.ofBool (decide (Owns o (e i))) := by
  pointwise [owned, expertOf]
  rw [hr i]
  exact owned_word o (e i)

/-- A row's place is its rank. -/
theorem place_apply (i : Fin 256) : place (F := Ideal) (BitVec.ofNat 32 o.val) r (ix2 i 0) = BitVec.ofNat 32 (rank e o i) := by
  pointwise [place]
  have hs : (∑ x : Fin 256, below (F := Ideal) (ix2 i x)
      * FloatOps.sitofp (F := Ideal) FTy.f32 (BitVec.setWidth 32 (owned (F := Ideal) (BitVec.ofNat 32 o.val) r (ix2 x 0))))
      = (((rank e o i : ℕ) : ℝ) : EReal) := by
    rw [rank, ← Finset.sum_boole, Cert.Moe.coe_sum]
    refine Finset.sum_congr rfl fun x _ => ?_
    rw [below_apply, owned_apply e r hr o x]
    have hw : FloatOps.sitofp (F := Ideal) FTy.f32 (BitVec.setWidth 32 (BitVec.ofBool (decide (Owns o (e x)))))
        = if Owns o (e x) then (1 : EReal) else 0 := by
      by_cases h₂ : Owns o (e x)
      · rw [decide_eq_true h₂, if_pos h₂]
        change (((1 : BitVec 32).toInt : ℝ) : EReal) = 1
        have : (1 : BitVec 32).toInt = 1 := by decide
        rw [this]; simp
      · rw [decide_eq_false h₂, if_neg h₂]
        change (((0 : BitVec 32).toInt : ℝ) : EReal) = 0
        simp
    rw [hw]
    by_cases h₁ : x < i
    · by_cases h₂ : Owns o (e x)
      · rw [if_pos h₁, if_pos h₂, if_pos ⟨h₁, h₂⟩]; simp
      · rw [if_pos h₁, if_neg h₂, if_neg fun h => h₂ h.2]; simp
    · rw [if_neg h₁, if_neg (c := x < i ∧ Owns o (e x)) fun h => h₁ h.1]; simp
  rw [hs]
  change Ideal.fptosi 32 _ = _
  have hle := rank_le e o i
  have h0 : (0 : ℝ) ≤ ((rank e o i : ℕ) : ℝ) := Nat.cast_nonneg _
  have hc : Ideal.toIntClamped (-(2 ^ (32 - 1) : ℕ)) ((2 ^ (32 - 1) : ℕ) - 1) (((rank e o i : ℕ) : ℝ) : EReal)
      = max (-(2 ^ (32 - 1) : ℕ) : ℤ) (min (((2 ^ (32 - 1) : ℕ) : ℤ) - 1)
        (if (0 : ℝ) ≤ ((rank e o i : ℕ) : ℝ) then ⌊((rank e o i : ℕ) : ℝ)⌋ else ⌈((rank e o i : ℕ) : ℝ)⌉)) := rfl
  rw [Ideal.fptosi, hc, if_pos h0, Int.floor_natCast]
  have : max (-(2 ^ (32 - 1) : ℕ) : ℤ) (min (((2 ^ (32 - 1) : ℕ) : ℤ) - 1) (rank e o i : ℤ)) = (rank e o i : ℤ) := by
    norm_num; omega
  rw [this]
  exact BitVec.ofInt_natCast ..

/-- The picking matrices' entries. -/
theorem picked_word (i : Fin 256) (q : Fin 96) :
    Scalar.select (IntOp.andi (IntOp.cmpi .eq (BitVec.ofNat 32 q.val) (place (F := Ideal) (BitVec.ofNat 32 o.val) r (ix2 i 0)))
      (owned (F := Ideal) (BitVec.ofNat 32 o.val) r (ix2 i 0))) (1 : EReal) 0 = if q.val = rank e o i ∧ Owns o (e i) then 1 else 0 := by
  rw [place_apply e r hr o i, owned_apply e r hr o i]
  have hle := rank_le e o i
  have : (BitVec.ofNat 32 q.val == BitVec.ofNat 32 (rank e o i)) = decide (q.val = rank e o i) := by
    rw [Bool.eq_iff_iff]
    simp only [beq_iff_eq, decide_eq_true_eq]
    constructor
    · intro h
      have := congrArg BitVec.toNat h
      simp only [BitVec.toNat_ofNat] at this
      omega
    · intro h; rw [h]
  simp only [IntOp.cmpi, this]
  by_cases h₁ : q.val = rank e o i
  · by_cases h₂ : Owns o (e i)
    · rw [decide_eq_true h₁, decide_eq_true h₂, if_pos ⟨h₁, h₂⟩]; rfl
    · rw [decide_eq_true h₁, decide_eq_false h₂, if_neg (fun h => h₂ h.2)]; rfl
  · rw [decide_eq_false h₁, if_neg (fun h => h₁ h.1)]
    by_cases h₂ : Owns o (e i)
    · rw [decide_eq_true h₂]; rfl
    · rw [decide_eq_false h₂]; rfl

theorem pick_apply (i : Fin 256) (q : Fin 96) :
    pick (F := Ideal) (BitVec.ofNat 32 o.val) r (ix2 q i) = if q.val = rank e o i ∧ Owns o (e i) then 1 else 0 := by
  pointwise [pick]
  exact picked_word e r hr o i q

theorem unpick_apply (i : Fin 256) (q : Fin 96) :
    unpick (F := Ideal) (BitVec.ofNat 32 o.val) r (ix2 i q) = if q.val = rank e o i ∧ Owns o (e i) then 1 else 0 := by
  pointwise [unpick]
  exact picked_word e r hr o i q

/-- Picking the place of an owned row reads that row. -/
theorem sum_pick (v : Fin 256 → EReal) (i : Fin 256) (hi : Owns o (e i)) (q : Fin 96) (hq : q.val = rank e o i) :
    ∑ k : Fin 256, pick (F := Ideal) (BitVec.ofNat 32 o.val) r (ix2 q k) * v k = v i := by
  rw [Finset.sum_eq_single i]
  · rw [pick_apply e r hr o, if_pos ⟨hq, hi⟩, one_mul]
  · intro k _ hk
    rw [pick_apply e r hr o, if_neg, zero_mul]
    rintro ⟨h, ho⟩
    exact hk (rank_inj e o k i ho hi (h.symm.trans hq))
  · intro h; exact absurd (Finset.mem_univ i) h

/-- Putting back reads an owned row's place, and zero at a row of another owner. -/
theorem sum_unpick (cap : load e o ≤ 96) (v : Fin 96 → EReal) (i : Fin 256) :
    ∑ q : Fin 96, unpick (F := Ideal) (BitVec.ofNat 32 o.val) r (ix2 i q) * v q
      = if h : Owns o (e i) then v ⟨rank e o i, (rank_lt_load e o i h).trans_le cap⟩ else 0 := by
  by_cases h : Owns o (e i)
  · rw [dif_pos h, Finset.sum_eq_single ⟨rank e o i, (rank_lt_load e o i h).trans_le cap⟩]
    · rw [unpick_apply e r hr o, if_pos ⟨rfl, h⟩, one_mul]
    · intro q _ hq
      rw [unpick_apply e r hr o, if_neg, zero_mul]
      rintro ⟨h', _⟩
      exact hq (Fin.ext h')
    · intro h'; exact absurd (Finset.mem_univ _) h'
  · rw [dif_neg h]
    refine Finset.sum_eq_zero fun q _ => ?_
    rw [unpick_apply e r hr o, if_neg (fun h' => h h'.2), zero_mul]

end Cert.KernelIdeal.Moe

end
-- ==== Proof.Packing.lean ====
/-
# What a row gets from an owner

With no more than 96 of a chunk's rows routed to owner `o`, spreading what the owner packed gives each of its rows
its weight times its own expert's matrix applied to it, and zero to the rows of other owners.
-/
module

public import proofs.«01_k».proof.Proof.Picked

@[expose] public section

noncomputable section

namespace Cert.KernelIdeal.Moe

open Cert.KernelIdeal Cert.KernelIdeal.Gen
open Idealize.ShloMosaic Idealize.ShloMosaic.TcCoe

/-- The score of row `i` at expert `k`. -/
def score (x : Vec Ideal S256x512 .f32) (rW : Vec Ideal S512x32 .f32) (i : Fin 256) (k : Fin 32) : EReal :=
  ∑ d : Fin 512, x (ix2 i d) * rW (ix2 d k)

theorem probs_apply (x : Vec Ideal S256x512 .f32) (rW : Vec Ideal S512x32 .f32) (i : Fin 256) (k : Fin 32) :
    probs (F := Ideal) x rW (ix2 i k) = Cert.Moe.softmax (score x rW i) k := by
  pointwise [probs, expScores, scores, rowsOf]
  rfl

/-- The word test for expert `k` of owner `o`. -/
theorem expert_word (o : Fin 8) (j : Fin 4) :
    (Scalar.addi (Scalar.muli (BitVec.ofNat 32 o.val) 4#32) (BitVec.ofNat 32 j.val)).toInt = (4 * o.val + j.val : ℕ) := by
  revert o j; decide

variable (e : Fin 256 → Fin 32) (r : Vec Ideal S256x1 .i32) (hr : ∀ i, r (ix2 i 0) = BitVec.ofNat 32 (e i).val) (o : Fin 8)
  (x : Vec Ideal S256x512 .f32) (rW : Vec Ideal S512x32 .f32) (ew : Vec Ideal S4x512x1024 .f32)

include hr

/-- The weight of a row is the softmax at its expert. -/
theorem weight_apply (i : Fin 256) : weight (F := Ideal) x rW r (ix2 i 0) = Cert.Moe.softmax (score x rW i) (e i) := by
  pointwise [weight, expertOf]
  rw [hr i, Finset.sum_eq_single (e i)]
  · rw [probs_apply]
    simp [Scalar.select, IntOp.cmpi]
  · intro k _ hk
    have : (BitVec.ofNat 32 k.val == BitVec.ofNat 32 (e i).val) = false := by
      rw [beq_eq_false_iff_ne]
      intro h
      have := congrArg BitVec.toNat h
      simp only [BitVec.toNat_ofNat] at this
      exact hk (Fin.ext (by omega))
    simp [Scalar.select, IntOp.cmpi, this]
  · intro h; exact absurd (Finset.mem_univ _) h

/-- An owned row, weighted. -/
theorem weighted_apply (i : Fin 256) (hi : Owns o (e i)) (d : Fin 512) :
    weighted (F := Ideal) (BitVec.ofNat 32 o.val) x rW r (ix2 i d) = x (ix2 i d) * Cert.Moe.softmax (score x rW i) (e i) := by
  pointwise [weighted, rowsOf]
  rw [owned_apply e r hr o i, decide_eq_true hi, weight_apply e r hr]
  rfl

theorem placedRows_apply (i : Fin 256) (hi : Owns o (e i)) (q : Fin 96) (hq : q.val = rank e o i) (d : Fin 512) :
    placedRows (F := Ideal) (BitVec.ofNat 32 o.val) x rW r (ix2 q d) = x (ix2 i d) * Cert.Moe.softmax (score x rW i) (e i) := by
  pointwise [placedRows]
  rw [sum_pick e r hr o (fun k => weighted (F := Ideal) (BitVec.ofNat 32 o.val) x rW r (ix2 k d)) i hi q hq,
    weighted_apply e r hr o x rW i hi]

theorem placedExperts_apply (i : Fin 256) (hi : Owns o (e i)) (q : Fin 96) (hq : q.val = rank e o i) :
    placedExperts (F := Ideal) (BitVec.ofNat 32 o.val) r (ix2 q 0) = ((((e i).val : ℤ) : ℝ) : EReal) := by
  pointwise [placedExperts, expertOf]
  rw [sum_pick e r hr o (fun k => FloatOps.sitofp (F := Ideal) FTy.bf16 (r (ix2 k 0))) i hi q hq, hr i]
  change (((BitVec.ofNat 32 (e i).val).toInt : ℝ) : EReal) = _
  have : ∀ k : Fin 32, (BitVec.ofNat 32 k.val).toInt = (k.val : ℤ) := by decide
  rw [this]

omit hr in
/-- The part of one expert at a place. -/
theorem expertPart_apply (j : Fin 4) (W : FVec Ideal S512x1024 .bf16) (f : FVec Ideal S96x1 .f32) (p : FVec Ideal S96x512 .bf16)
    (q : Fin 96) (h : Fin 1024) (n : ℕ) (hf : f (ix2 q 0) = (((n : ℤ) : ℝ) : EReal)) :
    expertPart (F := Ideal) (Scalar.addi (Scalar.muli (BitVec.ofNat 32 o.val) 4#32) (BitVec.ofNat 32 j.val)) W f p (ix2 q h)
      = if n = 4 * o.val + j.val then ∑ d : Fin 512, p (ix2 q d) * W (ix2 d h) else 0 := by
  pointwise [expertPart]
  rw [expert_word o j, hf]
  by_cases hn : n = 4 * o.val + j.val
  · rw [if_pos hn]
    refine Finset.sum_congr rfl fun d _ => ?_
    rw [if_pos (by rw [hn]), one_mul]
  · rw [if_neg hn]
    refine Finset.sum_eq_zero fun d _ => ?_
    rw [if_neg, zero_mul, zero_mul]
    intro hh
    rw [EReal.coe_eq_coe_iff] at hh
    exact hn (by exact_mod_cast hh)

omit hr in
theorem mat0_apply (d : Fin 512) (h : Fin 1024) : mat0 (F := Ideal) ew (ix2 d h) = ew (ix3 0 d h) := by pointwise [mat0, mats]
omit hr in
theorem mat1_apply (d : Fin 512) (h : Fin 1024) : mat1 (F := Ideal) ew (ix2 d h) = ew (ix3 1 d h) := by pointwise [mat1, mats]
omit hr in
theorem mat2_apply (d : Fin 512) (h : Fin 1024) : mat2 (F := Ideal) ew (ix2 d h) = ew (ix3 2 d h) := by pointwise [mat2, mats]
omit hr in
theorem mat3_apply (d : Fin 512) (h : Fin 1024) : mat3 (F := Ideal) ew (ix2 d h) = ew (ix3 3 d h) := by pointwise [mat3, mats]

/-- The place of an owned row holds its weighted row times its expert's matrix. -/
theorem packed_apply (i : Fin 256) (j : Fin 4) (hi : (e i).val = 4 * o.val + j.val) (q : Fin 96) (hq : q.val = rank e o i) (h : Fin 1024) :
    packed (F := Ideal) (BitVec.ofNat 32 o.val) ew x rW r (ix2 q h)
      = ∑ d : Fin 512, x (ix2 i d) * Cert.Moe.softmax (score x rW i) (e i) * ew (ix3 j d h) := by
  have ho : Owns o (e i) := by change (e i).val / 4 = o.val; omega
  pointwise [packed]
  have part := fun (k : Fin 4) (W : FVec Ideal S512x1024 .bf16) =>
    expertPart_apply o k W (placedExperts (F := Ideal) (BitVec.ofNat 32 o.val) r) (placedRows (F := Ideal) (BitVec.ofNat 32 o.val) x rW r)
      q h (e i).val (placedExperts_apply e r hr o i ho q hq)
  have p0 := part 0 (mat0 ew)
  have p1 := part 1 (mat1 ew)
  have p2 := part 2 (mat2 ew)
  have p3 := part 3 (mat3 ew)
  rw [hi] at p0 p1 p2 p3
  simp only [mat0_apply, mat1_apply, mat2_apply, mat3_apply, placedRows_apply e r hr o x rW i ho q hq] at p0 p1 p2 p3
  refine (congrArg₂ (· + ·) (congrArg₂ (· + ·) (congrArg₂ (· + ·) p0 p1) p2) p3).trans ?_
  fin_cases j <;> simp

/-- What a row gets from an owner. -/
theorem spread_packed (cap : load e o ≤ 96) (hp : ∀ i, 0 ≤ Cert.Moe.softmax (score x rW i) (e i) ∧ Cert.Moe.softmax (score x rW i) (e i) ≠ ⊤)
    (i : Fin 256) (h : Fin 1024) :
    spread (F := Ideal) (BitVec.ofNat 32 o.val) r (packed (F := Ideal) (BitVec.ofNat 32 o.val) ew x rW r) (ix2 i h)
      = if Owns o (e i) then Cert.Moe.softmax (score x rW i) (e i)
          * ∑ d : Fin 512, x (ix2 i d) * ew (ix3 ⟨(e i).val % 4, Nat.mod_lt _ (by norm_num)⟩ d h) else 0 := by
  pointwise [spread]
  rw [sum_unpick e r hr o cap (fun q => packed (F := Ideal) (BitVec.ofNat 32 o.val) ew x rW r (ix2 q h)) i]
  by_cases ho : Owns o (e i)
  · rw [dif_pos ho, if_pos ho, packed_apply e r hr o x rW ew i ⟨(e i).val % 4, Nat.mod_lt _ (by norm_num)⟩
      (by change (e i).val / 4 = o.val at ho; change _ = 4 * o.val + (e i).val % 4; omega) _ rfl,
      Cert.Moe.mul_sum_of_nonneg _ _ (hp i).1 (hp i).2]
    refine Finset.sum_congr rfl fun d _ => ?_
    rw [mul_comm (x (ix2 i d)), mul_assoc]
  · rw [dif_neg ho, if_neg ho]

omit hr in
theorem shared_apply (sw : Vec Ideal S512x1024 .f32) (i : Fin 256) (h : Fin 1024) :
    shared (F := Ideal) x sw (ix2 i h) = ∑ d : Fin 512, x (ix2 i d) * sw (ix2 d h) := by
  pointwise [shared, rowsOf]

end Cert.KernelIdeal.Moe

end
-- ==== Proof.Inputs.lean ====
/-
# A device's inputs and result, at coordinates

Every staged input is the whole argument array, and the result array ends at `outAt`.
-/
module

public import proofs.«01_k».proof.Proof.Frame
public import proofs.«01_k».proof.Proof.Packing
public import Idealize.ShloMosaic.Lib.Pipeline.ValueKit

@[expose] public section

noncomputable section

namespace Cert.KernelIdeal.Moe

open Cert.KernelIdeal Cert.KernelIdeal.Gen
open Idealize.ShloMosaic Idealize.ShloMosaic.TcCoe Idealize.SL.Sem

variable {F : FTy → Type} [FloatOps F] (m : (ℓ : Loc nD τ sig) → Buf (Elt F) ℓ)

theorem final_out (ρ : Dev nD → PrngReg) (c : Dev nD) : finalA m ρ c 5 = outAt m c := by
  refine Pipeline.Dat.arrAt_eq_of_after_last (dats m ρ 0 c) 5 t0_0 (by decide +kernel) _ (fun j => ?_)
  rfl

omit [FloatOps F] in
theorem in0_eq (c : Dev nD) : in0 m c = m ((c : Thread nD τ).loc main_arg0) := by
  funext y
  refine congrArg (m ((c : Thread nD τ).loc main_arg0)) (funext fun a => Fin.ext ?_)
  match a with
  | ⟨0, _⟩ => change 0 * 2048 + 1 * (y 0).val = (y 0).val; omega
  | ⟨1, _⟩ => change 0 * 512 + 1 * (y 1).val = (y 1).val; omega

omit [FloatOps F] in
theorem in1_eq (c : Dev nD) : in1 m c = m ((c : Thread nD τ).loc main_arg1) := by
  funext y
  refine congrArg (m ((c : Thread nD τ).loc main_arg1)) (funext fun a => Fin.ext ?_)
  match a with
  | ⟨0, _⟩ => change 0 * 512 + 1 * (y 0).val = (y 0).val; omega
  | ⟨1, _⟩ => change 0 * 32 + 1 * (y 1).val = (y 1).val; omega

omit [FloatOps F] in
theorem in2_eq (c : Dev nD) : in2 m c = m ((c : Thread nD τ).loc main_arg2) := by
  funext y
  refine congrArg (m ((c : Thread nD τ).loc main_arg2)) (funext fun a => Fin.ext ?_)
  match a with
  | ⟨0, _⟩ => change 0 * 2048 + 1 * (y 0).val = (y 0).val; omega
  | ⟨1, _⟩ => change 0 * 1 + 1 * (y 1).val = (y 1).val; omega

omit [FloatOps F] in
theorem in3_eq (c : Dev nD) : in3 m c = m ((c : Thread nD τ).loc main_arg3) := by
  funext y
  refine congrArg (m ((c : Thread nD τ).loc main_arg3)) (funext fun a => Fin.ext ?_)
  match a with
  | ⟨0, _⟩ => change 0 * 4 + 1 * (y 0).val = (y 0).val; omega
  | ⟨1, _⟩ => change 0 * 512 + 1 * (y 1).val = (y 1).val; omega
  | ⟨2, _⟩ => change 0 * 1024 + 1 * (y 2).val = (y 2).val; omega

omit [FloatOps F] in
theorem in4_eq (c : Dev nD) : in4 m c = m ((c : Thread nD τ).loc main_arg4) := by
  funext y
  refine congrArg (m ((c : Thread nD τ).loc main_arg4)) (funext fun a => Fin.ext ?_)
  match a with
  | ⟨0, _⟩ => change 0 * 512 + 1 * (y 0).val = (y 0).val; omega
  | ⟨1, _⟩ => change 0 * 1024 + 1 * (y 1).val = (y 1).val; omega

omit [FloatOps F] in
/-- A chunk's rows, at the offset. -/
theorem rowsAt_apply (off : Fin 2 → Nat) (hoff : ∀ a, off a + S256x512.size a ≤ S2048x512.size a) (k : Fin 8) (hk : off = ![256 * k.val, 0])
    (f : Vec F S2048x512 .f32) (i : Fin 256) (d : Fin 512) :
    rowsAt off hoff f (ix2 i d) = f (ix2 ⟨k.val * 256 + i.val, by omega⟩ d) := by
  subst hk
  unfold rowsAt
  refine congrArg f (funext fun a => Fin.ext ?_)
  match a with
  | ⟨0, _⟩ => change 256 * k.val + 1 * i.val = k.val * 256 + i.val; omega
  | ⟨1, _⟩ => change 0 + 1 * d.val = d.val; omega

omit [FloatOps F] in
/-- Their expert numbers. -/
theorem idsAt_apply (off : Fin 2 → Nat) (hoff : ∀ a, off a + S256x1.size a ≤ S2048x1.size a) (k : Fin 8) (hk : off = ![256 * k.val, 0])
    (f : Vec F S2048x1 .i32) (i : Fin 256) :
    idsAt off hoff f (ix2 i 0) = f (ix2 ⟨k.val * 256 + i.val, by omega⟩ 0) := by
  subst hk
  refine congrArg f (funext fun a => Fin.ext ?_)
  match a with
  | ⟨0, _⟩ => change 256 * k.val + 1 * i.val = k.val * 256 + i.val; omega
  | ⟨1, _⟩ => rfl

omit [FloatOps F] in
theorem routerOf_eq (f : Vec F S512x32 .f32) : routerOf f = f := by
  funext y
  refine congrArg f (funext fun a => Fin.ext ?_)
  match a with
  | ⟨0, _⟩ => change 0 + 1 * (y 0).val = (y 0).val; omega
  | ⟨1, _⟩ => change 0 + 1 * (y 1).val = (y 1).val; omega

omit [FloatOps F] in
theorem expertsOf_eq (f : Vec F S4x512x1024 .f32) : expertsOf f = f := by
  funext y
  refine congrArg f (funext fun a => Fin.ext ?_)
  match a with
  | ⟨0, _⟩ => change 0 + 1 * (y 0).val = (y 0).val; omega
  | ⟨1, _⟩ => change 0 + 1 * (y 1).val = (y 1).val; omega
  | ⟨2, _⟩ => change 0 + 1 * (y 2).val = (y 2).val; omega

omit [FloatOps F] in
theorem sharedOf_eq (f : Vec F S512x1024 .f32) : sharedOf f = f := by
  funext y
  refine congrArg f (funext fun a => Fin.ext ?_)
  match a with
  | ⟨0, _⟩ => change 0 + 1 * (y 0).val = (y 0).val; omega
  | ⟨1, _⟩ => change 0 + 1 * (y 1).val = (y 1).val; omega

/-! ## The numbers around the mesh -/

theorem me_eq (c : Dev nD) : me c = BitVec.ofNat 32 c.val := by revert c; decide +kernel

/-- The chunk a device packs at step `k` is that of the device it sends to. -/
theorem off1_eq (c : Dev nD) (k : Fin 7) : k0_off1 c (BitVec.ofNat 32 (1 + k.val)) = ![256 * (nx k c).val, 0] := by
  revert c k; decide +kernel
theorem off2_eq (c : Dev nD) (k : Fin 7) : k0_off2 c (BitVec.ofNat 32 (1 + k.val)) = ![256 * (nx k c).val, 0] := by
  revert c k; decide +kernel

/-- The owner of the rows that land at step `j`. -/
theorem source_eq (c : Dev nD) (j : Fin 7) : sourceOf (me c) (BitVec.ofNat 32 j.val) = BitVec.ofNat 32 (nx (back j) c).val := by
  revert c j; decide +kernel

end Cert.KernelIdeal.Moe

end
-- ==== Proof.Gathers.lean ====
/-
# The reference's two gathers, read at an index

`take_along_axis` reads each row of the probabilities at the row's own expert; the indexing of the matrices reads
one expert's matrix for each token. Both at start indices that are in range.
-/
module

public import proofs.«01_k».proof.Proof.Gen.ReferenceIdeal
public import Idealize.ShloMosaic.Lib.Pointwise

@[expose] public section

noncomputable section

namespace Cert.ReferenceIdeal.Moe

open Cert.ReferenceIdeal Cert.ReferenceIdeal.Gen
open Idealize.ShloMosaic

attribute [local instance] Cert.ReferenceIdeal.Gen.facts

variable {α : Type}

theorem word_toNat (k : Fin 32) : (BitVec.ofNat 32 k.val).toInt.toNat = k.val := by
  revert k; decide

/-- A row of the probabilities, read at its start index. -/
theorem gather_along (x : S2048x32.Idx → α) (idx : IVec S2048x1x1 32) (n : Fin 2048) (k : Fin 32)
    (h : idx (ix3 n 0 0) = BitVec.ofNat 32 k.val) :
    Host.gather gather_S2048x32_S2048x1x1_S2048x1_n_1_0_0_1_2_11 x idx (ix2 n 0) = x (ix2 n k) := by
  unfold Host.gather
  congr 1
  funext a
  refine Fin.ext ?_
  change GatherDims.start _ _ idx a + GatherDims.batchCoord _ _ a + GatherDims.offCoord _ _ a = _
  have h01 : a = 0 ∨ a = 1 := by
    match a with
    | ⟨0, _⟩ => exact .inl rfl
    | ⟨1, _⟩ => exact .inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S2048x32_S2048x1x1_S2048x1_n_1_0_0_1_2_11.operandBatchingDims from List.mem_singleton.mpr rfl)]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S2048x32_S2048x1x1_S2048x1_n_1_0_0_1_2_11.startIndexMap from List.mem_singleton.mpr rfl)]
    have hsi : ∀ c, gather_S2048x32_S2048x1x1_S2048x1_n_1_0_0_1_2_11.siIdx (ix2 n 0) c = ix3 n 0 0 := by
      intro c
      funext b
      refine Fin.ext ?_
      match b with
      | ⟨0, _⟩ => rfl
      | ⟨1, _⟩ => rfl
      | ⟨2, _⟩ => exact Nat.lt_one_iff.1 c.isLt
    rw [hsi, h, word_toNat]
    change min k.val 31 = k.val
    omega

/-- A token's matrix. -/
theorem gather_matrix (x : S32x512x1024.Idx → α) (idx : IVec S2048x1 32) (n : Fin 2048) (d : Fin 512) (h : Fin 1024) (k : Fin 32)
    (hk : idx (ix2 n 0) = BitVec.ofNat 32 k.val) :
    Host.gather gather_S32x512x1024_S2048x1_S2048x512x1024_12_0_n_n_0_1_15121024 x idx (ix3 n d h) = x (ix3 k d h) := by
  unfold Host.gather
  congr 1
  funext a
  refine Fin.ext ?_
  change GatherDims.start _ _ idx a + GatherDims.batchCoord _ _ a + GatherDims.offCoord _ _ a = _
  rw [GatherDims.batchCoord_eq_zero _ _ _ List.not_mem_nil, Nat.add_zero]
  have h012 : a = 0 ∨ a = 1 ∨ a = 2 := by
    match a with
    | ⟨0, _⟩ => exact .inl rfl
    | ⟨1, _⟩ => exact .inr (.inl rfl)
    | ⟨2, _⟩ => exact .inr (.inr rfl)
  rcases h012 with rfl | rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 3) ∈ gather_S32x512x1024_S2048x1_S2048x512x1024_12_0_n_n_0_1_15121024.startIndexMap from List.mem_singleton.mpr rfl)]
    have hsi : ∀ c, gather_S32x512x1024_S2048x1_S2048x512x1024_12_0_n_n_0_1_15121024.siIdx (ix3 n d h) c = ix2 n 0 := by
      intro c
      funext b
      refine Fin.ext ?_
      match b with
      | ⟨0, _⟩ => rfl
      | ⟨1, _⟩ => exact Nat.lt_one_iff.1 c.isLt
    rw [hsi, hk, word_toNat]
    change min k.val 31 = k.val
    omega
  · unfold GatherDims.start
    rw [dif_neg (show (1 : Fin 3) ∉ gather_S32x512x1024_S2048x1_S2048x512x1024_12_0_n_n_0_1_15121024.startIndexMap from (by decide : (1 : Fin 3) ∉ ([0] : List (Fin 3)))), Nat.zero_add]
    rfl
  · unfold GatherDims.start
    rw [dif_neg (show (2 : Fin 3) ∉ gather_S32x512x1024_S2048x1_S2048x512x1024_12_0_n_n_0_1_15121024.startIndexMap from (by decide : (2 : Fin 3) ∉ ([0] : List (Fin 3)))), Nat.zero_add]
    rfl

end Cert.ReferenceIdeal.Moe

end
-- ==== Proof.Reference.lean ====
/-
# What the reference computes

Each token's row is the shared matrix applied to it, plus its softmax at its own expert times that expert's matrix
applied to it.
-/
module

public import proofs.«01_k».proof.Proof.Gathers
public import proofs.«01_k».proof.Proof.Softmax
public import proofs.«01_k».proof.Proof.Gen.ReferenceIdeal.Run

@[expose] public section

noncomputable section

namespace Cert.ReferenceIdeal.Moe

open Cert.ReferenceIdeal Cert.ReferenceIdeal.Gen
open Idealize.ShloMosaic Idealize.SL.Sem

/-- The score of token `n` at expert `k`. -/
def score (x : Vec Ideal S2048x512 .f32) (rW : Vec Ideal S512x32 .f32) (n : Fin 2048) (k : Fin 32) : EReal :=
  ∑ d : Fin 512, x (ix2 n d) * rW (ix2 d k)

/-- A token's row of the result, at expert `k`. -/
def rowAt (x : Vec Ideal S2048x512 .f32) (rW : Vec Ideal S512x32 .f32) (ew : Vec Ideal S32x512x1024 .f32) (sw : Vec Ideal S512x1024 .f32)
    (n : Fin 2048) (k : Fin 32) (h : Fin 1024) : EReal :=
  (∑ d : Fin 512, x (ix2 n d) * sw (ix2 d h)) + Cert.Moe.softmax (score x rW n) k * ∑ d : Fin 512, x (ix2 n d) * ew (ix3 k d h)

/-- The result, `e` the tokens' experts. -/
def result (e : Fin 2048 → Fin 32) (x : Vec Ideal S2048x512 .f32) (rW : Vec Ideal S512x32 .f32) (ew : Vec Ideal S32x512x1024 .f32)
    (sw : Vec Ideal S512x1024 .f32) : Vec Ideal S2048x1024 .f32 := fun y => rowAt x rW ew sw (y 0) (e (y 0)) (y 1)

/-- The index read for a token, negative ones taken from the end: its expert's number. -/
theorem index_word (k : Fin 32) :
    Scalar.select (IntOp.cmpi .slt (BitVec.ofNat 32 k.val) 0#32) (IntOp.addi (BitVec.ofNat 32 k.val) 32#32) (BitVec.ofNat 32 k.val)
      = BitVec.ofNat 32 k.val := by
  revert k; decide

/-- It is in range. -/
theorem range_word (k : Fin 32) :
    IntOp.andi (IntOp.cmpi .sge (BitVec.ofNat 32 k.val) 0#32) (IntOp.cmpi .sle (BitVec.ofNat 32 k.val) 31#32) = 1#1 := by
  revert k; decide

theorem fold_andi_one {ι : Type*} (s : Finset ι) : s.fold IntOp.andi 1#1 (fun _ => 1#1) = 1#1 := by
  classical
  induction s using Finset.induction_on with
  | empty => rfl
  | insert a s ha ih => rw [Finset.fold_insert ha, ih]; rfl

/-- The reference runs, its result each token's row, its arguments unchanged. -/
theorem run_result (m : (ℓ : Loc nD τ sig) → Buf (Elt Ideal) ℓ) (ρ : Dev nD → PrngReg) (e : Fin 2048 → Fin 32)
    (he : ∀ n, (m (((0 : Dev nD).tc : Thread nD τ).loc main_arg2) : Vec Ideal S2048x1 .i32) (ix2 n 0) = BitVec.ofNat 32 (e n).val) :
    θ_run (defs (F := Ideal)) (onTc (τ := τ) (main (F := Ideal))) ⟨m, fun _ => 0, ρ⟩ fun r =>
      r.2.mem (((0 : Dev nD).tc : Thread nD τ).loc main_v23) = result e (m (((0 : Dev nD).tc : Thread nD τ).loc main_arg0))
        (m (((0 : Dev nD).tc : Thread nD τ).loc main_arg1)) (m (((0 : Dev nD).tc : Thread nD τ).loc main_arg3))
        (m (((0 : Dev nD).tc : Thread nD τ).loc main_arg4))
      ∧ r.2.mem (((0 : Dev nD).tc : Thread nD τ).loc main_arg0) = m (((0 : Dev nD).tc : Thread nD τ).loc main_arg0)
      ∧ r.2.mem (((0 : Dev nD).tc : Thread nD τ).loc main_arg1) = m (((0 : Dev nD).tc : Thread nD τ).loc main_arg1)
      ∧ r.2.mem (((0 : Dev nD).tc : Thread nD τ).loc main_arg2) = m (((0 : Dev nD).tc : Thread nD τ).loc main_arg2)
      ∧ r.2.mem (((0 : Dev nD).tc : Thread nD τ).loc main_arg3) = m (((0 : Dev nD).tc : Thread nD τ).loc main_arg3)
      ∧ r.2.mem (((0 : Dev nD).tc : Thread nD τ).loc main_arg4) = m (((0 : Dev nD).tc : Thread nD τ).loc main_arg4) := by
  refine (θ_run defs _ _).mono (fun r h => ?_) (Cert.ReferenceIdeal.Value.run (F := Ideal) m ρ)
  refine ⟨?_, (h 0).2⟩
  rw [(h 0).1]
  generalize m (((0 : Dev nD).tc : Thread nD τ).loc main_arg0) = x
  generalize m (((0 : Dev nD).tc : Thread nD τ).loc main_arg1) = rW
  generalize m (((0 : Dev nD).tc : Thread nD τ).loc main_arg2) = w at he ⊢
  generalize m (((0 : Dev nD).tc : Thread nD τ).loc main_arg3) = ew
  generalize m (((0 : Dev nD).tc : Thread nD τ).loc main_arg4) = sw
  funext y
  obtain ⟨n, k, rfl⟩ : ∃ (n : Fin 2048) (k : Fin 1024), y = ix2 n k := ⟨y 0, y 1, by funext a; fin_cases a <;> rfl⟩
  change _ = rowAt x rW ew sw n (e n) k
  pointwise []
  rw [gather_along _ _ n (e n) (by pointwise []; rw [he n]; exact index_word (e n))]
  rw [Finset.sum_congr rfl fun d _ => congrArg (@HMul.hMul EReal EReal EReal _ (x (ix2 n d)))
    (gather_matrix ew _ n d k (e n) (by pointwise []; rw [he n]; exact index_word (e n)))]
  rw [he n, index_word, range_word, fold_andi_one]
  refine congrArg₂ (· + ·) rfl (congrArg₂ (· * ·) ?_ rfl)
  change Host.divf _ _ (ix2 n (e n)) = _
  pointwise []
  rfl

end Cert.ReferenceIdeal.Moe

end
-- ==== Proof.CapacityFacts.lean ====
/-
# The precondition's side conditions

The shapes that the precondition's operations take fit each other, for the kernel's arguments and for the reference's.
-/
module

public import proofs.«01_k».proof.Pre_finite_within_capacity_KernelIdeal
public import proofs.«01_k».proof.Pre_finite_within_capacity_ReferenceIdeal

@[expose] public section

namespace Cert.Moe

theorem kernelFacts : Cert.Pre_finite_within_capacity_KernelIdeal.Facts where
  bcast_S_S2048x512 := by decide
  reducesTo_S2048x512_S2048_d1 := by decide
  h_S_ := by decide
  bcast_S2048_S2048x1_0 := by decide
  bcast_S_S512x32 := by decide
  reducesTo_S512x32_S_d0_1 := by decide
  bcast_S_S8 := by decide
  bcast_S8_S1x8_1 := by decide
  bcast_S2048x1_S2048x8_0_1 := by decide
  bcast_S1x8_S2048x8_0_1 := by decide
  shapeCasts_S2048x8_S8x256x8 := by decide
  natLt_1_32 := by decide
  reducesTo_S8x256x8_S8x8_d1 := by decide
  bcast_S_S2048x1 := by decide
  shapeCasts_S2048x1_S8x256x1 := by decide
  bcast_S_S8x8 := by decide
  shapeCasts_S8x8_S8x1x8 := by decide
  bcast_S8x256x1_S8x256x8_0_1_2 := by decide
  bcast_S8x1x8_S8x256x8_0_1_2 := by decide

theorem referenceFacts : Cert.Pre_finite_within_capacity_ReferenceIdeal.Facts where
  bcast_S_S2048x512 := by decide
  reducesTo_S2048x512_S2048_d1 := by decide
  h_S_ := by decide
  bcast_S2048_S2048x1_0 := by decide
  bcast_S_S512x32 := by decide
  reducesTo_S512x32_S_d0_1 := by decide
  bcast_S_S8 := by decide
  bcast_S8_S1x8_1 := by decide
  bcast_S2048x1_S2048x8_0_1 := by decide
  bcast_S1x8_S2048x8_0_1 := by decide
  shapeCasts_S2048x8_S8x256x8 := by decide
  natLt_1_32 := by decide
  reducesTo_S8x256x8_S8x8_d1 := by decide
  bcast_S_S2048x1 := by decide
  shapeCasts_S2048x1_S8x256x1 := by decide
  bcast_S_S8x8 := by decide
  shapeCasts_S8x8_S8x1x8 := by decide
  bcast_S8x256x1_S8x256x8_0_1_2 := by decide
  bcast_S8x1x8_S8x256x8_0_1_2 := by decide

end Cert.Moe
-- ==== Proof.Capacity.lean ====
/-
# What the precondition says

It says of the whole arrays that tokens and router are real, that every token names an expert, and that each owner
has at most 96 of the 256 tokens of a chunk.
-/
module

public import proofs.«01_k».proof.Proof.CapacityFacts
public import proofs.«01_k».proof.Proof.Softmax
public import Idealize.ShloMosaic.Lib.IndicatorCount

@[expose] public section

noncomputable section

namespace Cert.Moe

open Idealize.ShloMosaic Cert.Pre_finite_within_capacity_KernelIdeal

attribute [local instance] kernelFacts

/-- Row `i` of chunk `c`. -/
abbrev rowOf (c : Fin 8) (i : Fin 256) : Fin 2048 := ⟨c.val * 256 + i.val, by omega⟩

theorem andi_eq_one (a b : BitVec 1) : IntOp.andi a b = 1#1 ↔ a = 1#1 ∧ b = 1#1 := by
  revert a b; decide

theorem fold_andi_eq_one {ι : Type*} (s : Finset ι) (f : ι → BitVec 1) (h : s.fold IntOp.andi 1#1 f = 1#1) : ∀ i ∈ s, f i = 1#1 := by
  classical
  induction s using Finset.induction_on with
  | empty => simp
  | insert a s ha ih =>
    rw [Finset.fold_insert ha, andi_eq_one] at h
    intro i hi
    rcases Finset.mem_insert.1 hi with rfl | hi
    · exact h.1
    · exact ih h.2 i hi

theorem ofBool_eq_one (b : Bool) : BitVec.ofBool b = 1#1 ↔ b = true := by
  revert b; decide

theorem ofBits_inf : Ideal.ofBits .f32 0x7F800000#32 = ⊤ := by
  simp [Ideal.ofBits, Ideal.ieee]

/-- The comparison of an absolute value with infinity. -/
theorem isReal_of_test {x : EReal} (h : BitVec.ofBool (decide (FloatOps.absf (F := Ideal) (φ := .f32) x < Ideal.ofBits .f32 0x7F800000#32)) = 1#1) :
    IsReal x := by
  have h := of_decide_eq_true ((ofBool_eq_one _).1 h)
  rw [ofBits_inf] at h
  exact isReal_of_abs_lt_top h

/-- A word from 0 to 31. -/
theorem word_range (w : BitVec 32) (h1 : IntOp.cmpi .sge w 0#32 = 1#1) (h2 : IntOp.cmpi .slt w 32#32 = 1#1) : w.toNat < 32 := by
  simp only [IntOp.cmpi, ofBool_eq_one] at h1 h2
  rw [BitVec.sle_eq_decide, decide_eq_true_eq] at h1
  rw [BitVec.slt_eq_decide, decide_eq_true_eq] at h2
  have e0 : (0#32).toInt = 0 := by decide
  have e32 : (32#32).toInt = 32 := by decide
  rw [e0] at h1
  rw [e32] at h2
  have := BitVec.toInt_eq_toNat_cond w
  split at this <;> omega

theorem owner_word (o : Fin 8) (e : Fin 32) :
    IntOp.andi (IntOp.cmpi .sge (BitVec.ofNat 32 e.val) (IntOp.muli 4#32 (BitVec.ofNat 32 o.val)))
      (IntOp.cmpi .slt (BitVec.ofNat 32 e.val) (IntOp.addi (IntOp.muli 4#32 (BitVec.ofNat 32 o.val)) 4#32))
    = BitVec.ofBool (decide (e.val / 4 = o.val)) := by
  revert o e; decide

theorem capacity (x : FVec Ideal S2048x512 .f32) (rW : FVec Ideal S512x32 .f32) (r : IVec S2048x1 32)
    (ew : FVec Ideal S4x512x1024 .f32) (sw : FVec Ideal S512x1024 .f32) (h : fn (F := Ideal) x rW r ew sw = fun _ => 1#1) :
    (∀ n d, IsReal (x (ix2 n d))) ∧ (∀ d k, IsReal (rW (ix2 d k)))
      ∧ ∃ e : Fin 2048 → Fin 32, (∀ n, r (ix2 n 0) = BitVec.ofNat 32 (e n).val)
        ∧ ∀ (c o : Fin 8), (Finset.univ.filter fun i : Fin 256 => (e (rowOf c i)).val / 4 = o.val).card ≤ 96 := by
  have hh : ∀ (c : Fin 8) (i : Fin 256) (o : Fin 8), fn (F := Ideal) x rW r ew sw (ix3 c i o) = 1#1 := fun c i o => congrFun h _
  have h' : ∀ (c : Fin 8) (i : Fin 256) (o : Fin 8),
      ((IntOp.cmpi .sge (r (ix2 (rowOf c i) 0)) 0#32 = 1#1 ∧ IntOp.cmpi .slt (r (ix2 (rowOf c i) 0)) 32#32 = 1#1)
        ∧ (∀ d, IsReal (x (ix2 (rowOf c i) d))) ∧ (∀ d k, IsReal (rW (ix2 d k))))
      ∧ IntOp.cmpi .sle (Finset.univ.fold IntOp.addi 0#32 fun i : Fin 256 => BitVec.setWidth 32
        (IntOp.andi (IntOp.cmpi .sge (r (ix2 (rowOf c i) 0)) (IntOp.muli 4#32 (BitVec.ofNat 32 o.val)))
          (IntOp.cmpi .slt (r (ix2 (rowOf c i) 0)) (IntOp.addi (IntOp.muli 4#32 (BitVec.ofNat 32 o.val)) 4#32)))) 96#32 = 1#1 := by
    intro c i o
    have := hh c i o
    pointwise [fn, fn_part1, fn_part2] at this
    rw [andi_eq_one, andi_eq_one, andi_eq_one, andi_eq_one] at this
    obtain ⟨⟨⟨hr, hx⟩, hW⟩, hl⟩ := this
    refine ⟨⟨hr, fun d => ?_, fun d k => ?_⟩, hl⟩
    · have := fold_andi_eq_one _ _ hx d (Finset.mem_univ _)
      exact isReal_of_test this
    · have := fold_andi_eq_one _ _ hW (d, k) (Finset.mem_univ _)
      exact isReal_of_test this
  have hrow : ∀ n : Fin 2048, ∃ c i, n = rowOf c i := fun n =>
    ⟨⟨n.val / 256, by omega⟩, ⟨n.val % 256, by omega⟩, Fin.ext (by simp only [rowOf]; omega)⟩
  have hlt : ∀ n, (r (ix2 n 0)).toNat < 32 := by
    intro n
    obtain ⟨c, i, rfl⟩ := hrow n
    exact word_range _ (h' c i 0).1.1.1 (h' c i 0).1.1.2
  have he : ∀ n, r (ix2 n 0) = BitVec.ofNat 32 (⟨(r (ix2 n 0)).toNat, hlt n⟩ : Fin 32).val := fun n => by simp
  refine ⟨fun n d => ?_, (h' 0 0 0).1.2.2, fun n => ⟨(r (ix2 n 0)).toNat, hlt n⟩, he, fun c o => ?_⟩
  · obtain ⟨c, i, rfl⟩ := hrow n
    exact (h' c i 0).1.2.1 d
  · have hl := (h' c 0 o).2
    generalize hE : (fun n => (⟨(r (ix2 n 0)).toNat, hlt n⟩ : Fin 32)) = e at he ⊢
    have he' : ∀ n, r (ix2 n 0) = BitVec.ofNat 32 (e n).val := fun n => by rw [he n, ← hE]
    simp only [he', owner_word] at hl
    rw [IndicatorCount.fold_addi_setWidth_eq_card] at hl
    simp only [ofBool_eq_one, decide_eq_true_eq] at hl
    have hc : (Finset.univ.filter fun i : Fin 256 => (e (rowOf c i)).val / 4 = o.val).card ≤ 256 := (Finset.card_le_univ _).trans (by simp)
    have hg : ∀ k : ℕ, k ≤ 256 → IntOp.cmpi .sle (BitVec.ofNat 32 k) 96#32 = 1#1 → k ≤ 96 := by
      intro k hk hl
      simp only [IntOp.cmpi, ofBool_eq_one] at hl
      rw [BitVec.sle_eq_decide, decide_eq_true_eq, BitVec.toInt_eq_toNat_of_lt] at hl
      · have e96 : (96#32).toInt = 96 := by decide
        rw [e96, BitVec.toNat_ofNat] at hl
        omega
      · rw [BitVec.toNat_ofNat]; omega
    exact hg _ hc hl

end Cert.Moe

end
-- ==== Proof.Equation.lean ====
/-
# A device's block is the reference's rows

From the same arrays, with the tokens and the router real and at most 96 of each chunk's tokens routed to each owner,
the rows of device `c` are the reference's rows of chunk `c`: of the eight owners exactly one has a row's expert, and
the others add zero.
-/
module

public import proofs.«01_k».proof.Proof.Inputs
public import proofs.«01_k».proof.Proof.Reference
public import proofs.«01_k».proof.Proof.Capacity
public import Idealize.ShloMosaic.Lib.Layout

@[expose] public section

noncomputable section

namespace Cert.KernelIdeal.Moe

open Cert.KernelIdeal Cert.KernelIdeal.Gen
open Idealize.ShloMosaic Idealize.ShloMosaic.TcCoe
open Cert.Moe (rowOf)

/-- Chunk `c` of the tokens. -/
def chunk (X : Vec Ideal S2048x512 .f32) (c : Fin 8) : Vec Ideal S256x512 .f32 := fun y => X (ix2 (rowOf c (y 0)) (y 1))

/-- Chunk `c` of their expert numbers. -/
def chunkIds (R : Vec Ideal S2048x1 .i32) (c : Fin 8) : Vec Ideal S256x1 .i32 := fun y => R (ix2 (rowOf c (y 0)) 0)

/-- Owner `o`'s matrices. -/
def ownMats (EW : Vec Ideal ⟨3, ![32, 512, 1024]⟩ .f32) (o : Fin 8) : Vec Ideal S4x512x1024 .f32 :=
  Layout.block ⟨3, ![4, 512, 1024]⟩ ⟨3, ![32, 512, 1024]⟩ 0 8 o EW

theorem ownMats_apply (EW : Vec Ideal ⟨3, ![32, 512, 1024]⟩ .f32) (o : Fin 8) (k : Fin 32) (hk : Owns o k) (d : Fin 512) (h : Fin 1024) :
    ownMats EW o (ix3 ⟨k.val % 4, Nat.mod_lt _ (by norm_num)⟩ d h) = EW (ix3 k d h) := by
  refine congrArg EW (funext fun a => Fin.ext ?_)
  match a with
  | ⟨0, _⟩ => change o.val * 4 + k.val % 4 = k.val; change k.val / 4 = o.val at hk; omega
  | ⟨1, _⟩ => rfl
  | ⟨2, _⟩ => rfl

theorem rowsAt_chunk (off : Fin 2 → Nat) (hoff : ∀ a, off a + S256x512.size a ≤ S2048x512.size a) (k : Fin 8) (hk : off = ![256 * k.val, 0])
    (f : Vec Ideal S2048x512 .f32) : rowsAt off hoff f = chunk f k := by
  funext y
  obtain ⟨i, d, rfl⟩ : ∃ (i : Fin 256) (d : Fin 512), y = ix2 i d := ⟨y 0, y 1, by funext a; fin_cases a <;> rfl⟩
  exact rowsAt_apply off hoff k hk f i d

theorem idsAt_chunk (off : Fin 2 → Nat) (hoff : ∀ a, off a + S256x1.size a ≤ S2048x1.size a) (k : Fin 8) (hk : off = ![256 * k.val, 0])
    (f : Vec Ideal S2048x1 .i32) : idsAt off hoff f = chunkIds f k := by
  funext y
  obtain ⟨i, rfl⟩ : ∃ i : Fin 256, y = ix2 i 0 := ⟨y 0, by funext a; fin_cases a <;> [rfl; exact Subsingleton.elim (α := Fin 1) _ _]⟩
  exact idsAt_apply off hoff k hk f i

theorem landed_sent (v : FVec Ideal S96x1024 .bf16) : landedRows (shapeCast S1x96x1024 v shapeCasts_S96x1024_S1x96x1024) = v := by
  funext y
  obtain ⟨q, h, rfl⟩ : ∃ (q : Fin 96) (h : Fin 1024), y = ix2 q h := ⟨y 0, y 1, by funext a; fin_cases a <;> rfl⟩
  pointwise [landedRows]

/-- The own rows, the shared rows and the seven arrivals are the shared rows and all eight owners' rows. -/
theorem sum_owners (g : Fin 8 → EReal) (S : EReal) (c : Fin 8) :
    g c + S + g (nx (back 0) c) + g (nx (back 1) c) + g (nx (back 2) c) + g (nx (back 3) c) + g (nx (back 4) c) + g (nx (back 5) c)
      + g (nx (back 6) c) = S + ∑ o, g o := by
  rw [Fin.sum_univ_eight]
  fin_cases c
  · change g 0 + S + g 7 + g 6 + g 5 + g 4 + g 3 + g 2 + g 1 = _; abel
  · change g 1 + S + g 0 + g 7 + g 6 + g 5 + g 4 + g 3 + g 2 = _; abel
  · change g 2 + S + g 1 + g 0 + g 7 + g 6 + g 5 + g 4 + g 3 = _; abel
  · change g 3 + S + g 2 + g 1 + g 0 + g 7 + g 6 + g 5 + g 4 = _; abel
  · change g 4 + S + g 3 + g 2 + g 1 + g 0 + g 7 + g 6 + g 5 = _; abel
  · change g 5 + S + g 4 + g 3 + g 2 + g 1 + g 0 + g 7 + g 6 = _; abel
  · change g 6 + S + g 5 + g 4 + g 3 + g 2 + g 1 + g 0 + g 7 = _; abel
  · change g 7 + S + g 6 + g 5 + g 4 + g 3 + g 2 + g 1 + g 0 = _; abel

section Equation

variable (X : Vec Ideal S2048x512 .f32) (RW : Vec Ideal S512x32 .f32) (R : Vec Ideal S2048x1 .i32)
  (EW : Vec Ideal ⟨3, ![32, 512, 1024]⟩ .f32) (SW : Vec Ideal S512x1024 .f32)
  (e : Fin 2048 → Fin 32) (he : ∀ n, R (ix2 n 0) = BitVec.ofNat 32 (e n).val)
  (hX : ∀ n d, Cert.Moe.IsReal (X (ix2 n d))) (hRW : ∀ d k, Cert.Moe.IsReal (RW (ix2 d k)))
  (cap : ∀ c o : Fin 8, (Finset.univ.filter fun i : Fin 256 => (e (rowOf c i)).val / 4 = o.val).card ≤ 96)

/-- A row's routed part. -/
def routed (n : Fin 2048) (h : Fin 1024) : EReal :=
  Cert.Moe.softmax (Cert.ReferenceIdeal.Moe.score X RW n) (e n) * ∑ d : Fin 512, X (ix2 n d) * EW (ix3 (e n) d h)

include he hX hRW cap in
/-- What owner `o` gives a row of chunk `c`. -/
theorem owner_gives (c o : Fin 8) (i : Fin 256) (h : Fin 1024) :
    spread (F := Ideal) (BitVec.ofNat 32 o.val) (chunkIds R c)
      (packed (F := Ideal) (BitVec.ofNat 32 o.val) (ownMats EW o) (chunk X c) RW (chunkIds R c)) (ix2 i h)
      = if (⟨(e (rowOf c i)).val / 4, by omega⟩ : Fin 8) = o then routed X RW EW e (rowOf c i) h else 0 := by
  rw [spread_packed (fun i => e (rowOf c i)) (chunkIds R c) (fun i => he (rowOf c i)) o (chunk X c) RW (ownMats EW o) (cap c o)
    (fun i => Cert.Moe.softmax_real (by norm_num) _ (fun k => Cert.Moe.isReal_sum _ _ fun d =>
      Cert.Moe.isReal_mul (hX (rowOf c i) d) (hRW d k)) _) i h]
  by_cases ho : Owns o (e (rowOf c i))
  · rw [if_pos ho, if_pos (Fin.ext ho)]
    refine congrArg₂ (· * ·) rfl (Finset.sum_congr rfl fun d _ => ?_)
    rw [ownMats_apply EW o _ ho]
    rfl
  · rw [if_neg ho, if_neg (fun hh => ho (congrArg Fin.val hh))]

variable (m : (ℓ : Loc nD τ sig) → Buf (Elt Ideal) ℓ)
  (h0 : ∀ c : Dev nD, m ((c : Thread nD τ).loc main_arg0) = X) (h1 : ∀ c : Dev nD, m ((c : Thread nD τ).loc main_arg1) = RW)
  (h2 : ∀ c : Dev nD, m ((c : Thread nD τ).loc main_arg2) = R) (h3 : ∀ c : Dev nD, m ((c : Thread nD τ).loc main_arg3) = ownMats EW c)
  (h4 : ∀ c : Dev nD, m ((c : Thread nD τ).loc main_arg4) = SW)

include h0 in
theorem myRows_eq (c : Dev nD) : myRows m c = chunk X c := by
  unfold myRows
  rw [in0_eq, h0]
  exact rowsAt_chunk _ _ c (k0_off3_eq c) X

include h2 in
theorem myIds_eq (c : Dev nD) : myIds m c = chunkIds R c := by
  unfold myIds
  rw [in2_eq, h2]
  exact idsAt_chunk _ _ c (k0_off4_eq c) R

include h0 h1 h2 h3 in
theorem arrival_eq (c : Dev nD) (j : Fin 7) :
    arrival m c j = spread (F := Ideal) (BitVec.ofNat 32 (nx (back j) c).val) (chunkIds R c)
      (packed (F := Ideal) (BitVec.ofNat 32 (nx (back j) c).val) (ownMats EW (nx (back j) c)) (chunk X c) RW (chunkIds R c)) := by
  unfold arrival sent
  rw [landed_sent, myIds_eq R m h2, source_eq]
  unfold sentRows
  rw [in0_eq, in1_eq, in2_eq, in3_eq, h0, h1, h2, h3, me_eq, expertsOf_eq, routerOf_eq,
    rowsAt_chunk _ _ (nx j (nx (back j) c)) (off1_eq _ j), idsAt_chunk _ _ (nx j (nx (back j) c)) (off2_eq _ j), back_nx]

include he hX hRW cap h0 h1 h2 h3 h4 in
theorem out_eq (c : Dev nD) :
    outAt m c = Layout.block ⟨2, ![256, 1024]⟩ ⟨2, ![2048, 1024]⟩ 0 8 c (Cert.ReferenceIdeal.Moe.result e X RW EW SW) := by
  funext y
  obtain ⟨i, h, rfl⟩ : ∃ (i : Fin 256) (h : Fin 1024), y = ix2 i h := ⟨y 0, y 1, by funext a; fin_cases a <;> rfl⟩
  have hb : (Layout.block ⟨2, ![256, 1024]⟩ ⟨2, ![2048, 1024]⟩ 0 8 c (Cert.ReferenceIdeal.Moe.result e X RW EW SW)) (ix2 i h)
      = Cert.ReferenceIdeal.Moe.rowAt X RW EW SW (rowOf c i) (e (rowOf c i)) h := by
    refine Eq.trans (congrArg (Cert.ReferenceIdeal.Moe.result e X RW EW SW) (a₂ := ix2 (rowOf c i) h) (funext fun a => Fin.ext ?_)) rfl
    match a with
    | ⟨0, _⟩ => rfl
    | ⟨1, _⟩ => rfl
  rw [hb]
  have hg := owner_gives X RW R EW e he hX hRW cap c
  unfold outAt outRows
  rw [arrival_eq X RW R EW m h0 h1 h2 h3 c 0, arrival_eq X RW R EW m h0 h1 h2 h3 c 1, arrival_eq X RW R EW m h0 h1 h2 h3 c 2,
    arrival_eq X RW R EW m h0 h1 h2 h3 c 3, arrival_eq X RW R EW m h0 h1 h2 h3 c 4, arrival_eq X RW R EW m h0 h1 h2 h3 c 5,
    arrival_eq X RW R EW m h0 h1 h2 h3 c 6, myRows_eq X m h0, myIds_eq R m h2, in1_eq, in3_eq, in4_eq, h1, h3, h4, me_eq, expertsOf_eq,
    routerOf_eq, sharedOf_eq]
  simp only [addf_apply]
  rw [hg, hg, hg, hg, hg, hg, hg, hg, shared_apply]
  refine (sum_owners (fun o => if (⟨(e (rowOf c i)).val / 4, by omega⟩ : Fin 8) = o then routed X RW EW e (rowOf c i) h else 0) _ c).trans ?_
  rw [Finset.sum_ite_eq, if_pos (Finset.mem_univ _)]
  rfl

end Equation

end Cert.KernelIdeal.Moe

end
-- ==== Proof.lean ====
/-
# The claims, assembled

The frames are read off the runs: the kernel's at the bit-exact and at the ideal instance (Bits/Frame.lean,
Frame.lean), the reference's off its generated run. The value claim takes what the precondition says of the arrays
(Capacity.lean), the reference's rows (Reference.lean), and a device's rows being these (Equation.lean).
-/
module

public import proofs.«01_k».proof.Defs
public import proofs.«01_k».proof.Proof.Equation
public import proofs.«01_k».proof.Proof.Bits.Frame

@[expose] public section

noncomputable section

namespace Cert.Proof

open Idealize.ShloMosaic Idealize.SL.Sem

attribute [local instance] Cert.Moe.kernelFacts Cert.Moe.referenceFacts

/-- The kernel runs, leaves its arguments unchanged and every semaphore at zero. -/
theorem frame_kernel : Cert.quiescent_Kernel := fun m g _ =>
  (θ_run Cert.Kernel.defs _ _).mono (fun _ h => ⟨fun c => (h.1 c).2, h.2⟩) (Cert.Kernel.Moe.run_values (F := Bits) m g)

/-- So does its ideal program. -/
theorem frame_ideal : Cert.quiescent_KernelIdeal := fun m g _ =>
  (θ_run Cert.KernelIdeal.defs _ _).mono (fun _ h => ⟨fun c => (h.1 c).2, h.2⟩) (Cert.KernelIdeal.Moe.run_values (F := Ideal) m g)

/-- So does the reference, which has no semaphores. -/
theorem frame_reference : Cert.quiescent_ReferenceIdeal := fun m g _ =>
  (θ_run Cert.ReferenceIdeal.defs _ _).mono (fun r h => ⟨fun c => (h c).2,
    Idealize.ShloMosaic.sem_eq_zero_of_no_sems (by decide) r.2⟩) (Cert.ReferenceIdeal.Value.run (F := Ideal) m g)

/-- The ideal program's frame holds under the precondition, holding without it. -/
theorem frame_ideal_within : Cert.quiescent_KernelIdeal_pre_finite_within_capacity_KernelIdeal := fun m g _ => frame_ideal m g trivial

/-- So does the reference's. -/
theorem frame_reference_within : Cert.quiescent_ReferenceIdeal_pre_finite_within_capacity_ReferenceIdeal := fun m g _ =>
  frame_reference m g trivial

/-- Every device's result is its block of the reference's. -/
theorem algebraic : Cert.algebraic_KernelIdeal_ReferenceIdeal_pre_finite_within_capacity_KernelIdeal := by
  intro m g m' g' hpre hargs
  obtain ⟨hX, hRW, e, he, cap⟩ := Cert.Moe.capacity _ _ _ _ _ (hpre 0)
  rw [(hargs 0).1] at hX
  rw [(hargs 0).2.1] at hRW
  rw [(hargs 0).2.2.1] at he
  refine ⟨_, (θ_run Cert.KernelIdeal.defs _ _).mono (fun r h c => ⟨?_, (h.1 c).2⟩) (Cert.KernelIdeal.Moe.run_values (F := Ideal) m g),
    Cert.ReferenceIdeal.Moe.run_result m' g' e he⟩
  exact (h.1 c).1.trans ((Cert.KernelIdeal.Moe.final_out m g c).trans (Cert.KernelIdeal.Moe.out_eq _ _ _ _ _ e he hX hRW cap m
    (fun c => (hargs c).1) (fun c => (hargs c).2.1) (fun c => (hargs c).2.2.1) (fun c => (hargs c).2.2.2.1) (fun c => (hargs c).2.2.2.2) c))

theorem claim : Cert.Claim := ⟨Cert.Kernel.Gen.facts, Cert.KernelIdeal.Gen.facts, Cert.ReferenceIdeal.Gen.facts,
  Cert.Moe.kernelFacts, Cert.Moe.referenceFacts, frame_kernel, frame_ideal, frame_ideal_within, frame_reference,
  frame_reference_within, trivial, algebraic⟩

end Cert.Proof

end
